-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2 = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_in_range [hPre_in_range : Cert.Pre_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).1 = (fun _ => 1#1)
    ∧ (Cert.Pre_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnReferenceIdeal (m : (ℓ : Loc Cert.AdalnReferenceIdeal.nD Cert.AdalnReferenceIdeal.τ Cert.AdalnReferenceIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_in_range [hExpertsReferenceIdeal : Cert.ExpertsReferenceIdeal.Facts] [hPre_in_range : Cert.Pre_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnReferenceIdeal [hAdalnReferenceIdeal : Cert.AdalnReferenceIdeal.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3)
      ∧ r.2.mem ((c.tc : Thread Cert.Residual.nD Cert.Residual.τ).loc Cert.Residual.main_arg4) = m ((c.tc : Thread Cert.Residual.nD Cert.Residual.τ).loc Cert.Residual.main_arg4))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
      ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2)
      ∧ r.2.mem ((c.tc : Thread Cert.ResidualReferenceIdeal.nD Cert.ResidualReferenceIdeal.τ).loc Cert.ResidualReferenceIdeal.main_arg3) = m ((c.tc : Thread Cert.ResidualReferenceIdeal.nD Cert.ResidualReferenceIdeal.τ).loc Cert.ResidualReferenceIdeal.main_arg3)
      ∧ r.2.mem ((c.tc : Thread Cert.ResidualReferenceIdeal.nD Cert.ResidualReferenceIdeal.τ).loc Cert.ResidualReferenceIdeal.main_arg4) = m ((c.tc : Thread Cert.ResidualReferenceIdeal.nD Cert.ResidualReferenceIdeal.τ).loc Cert.ResidualReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v153) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v3)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v3) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v26) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def preserves_Adaln_AdalnIdeal : Prop :=
  True

def algebraic_AdalnIdeal_AdalnReferenceIdeal [hAdalnIdeal : Cert.AdalnIdeal.Facts] [hAdalnReferenceIdeal : Cert.AdalnReferenceIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnReferenceIdeal.nD Cert.AdalnReferenceIdeal.τ Cert.AdalnReferenceIdeal.sig) → Buf (Elt Ideal) ℓ) (g' : Dev Cert.AdalnReferenceIdeal.nD → PrngReg), Pre_AdalnIdeal m →
    (∀ c : Dev Cert.AdalnIdeal.nD,
      m' ((c.tc : Thread Cert.AdalnReferenceIdeal.nD Cert.AdalnReferenceIdeal.τ).loc Cert.AdalnReferenceIdeal.main_arg0) = m ((c.tc : Thread Cert.AdalnIdeal.nD Cert.AdalnIdeal.τ).loc Cert.AdalnIdeal.main_arg0)
      ∧ m' ((c.tc : Thread Cert.AdalnReferenceIdeal.nD Cert.AdalnReferenceIdeal.τ).loc Cert.AdalnReferenceIdeal.main_arg1) = m ((c.tc : Thread Cert.AdalnIdeal.nD Cert.AdalnIdeal.τ).loc Cert.AdalnIdeal.main_arg1)
      ∧ m' ((c.tc : Thread Cert.AdalnReferenceIdeal.nD Cert.AdalnReferenceIdeal.τ).loc Cert.AdalnReferenceIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnReferenceIdeal.defs (F := Ideal)) (onTc (τ := Cert.AdalnReferenceIdeal.τ) (Cert.AdalnReferenceIdeal.main (F := Ideal))) ⟨m', fun _ => 0, g'⟩ (fun r => ∀ c : Dev Cert.AdalnReferenceIdeal.nD,
          r.2.mem ((c.tc : Thread Cert.AdalnReferenceIdeal.nD Cert.AdalnReferenceIdeal.τ).loc Cert.AdalnReferenceIdeal.main_v5) = v0 c
          ∧ r.2.mem ((c.tc : Thread Cert.AdalnReferenceIdeal.nD Cert.AdalnReferenceIdeal.τ).loc Cert.AdalnReferenceIdeal.main_arg0) = m' ((c.tc : Thread Cert.AdalnReferenceIdeal.nD Cert.AdalnReferenceIdeal.τ).loc Cert.AdalnReferenceIdeal.main_arg0)
          ∧ r.2.mem ((c.tc : Thread Cert.AdalnReferenceIdeal.nD Cert.AdalnReferenceIdeal.τ).loc Cert.AdalnReferenceIdeal.main_arg1) = m' ((c.tc : Thread Cert.AdalnReferenceIdeal.nD Cert.AdalnReferenceIdeal.τ).loc Cert.AdalnReferenceIdeal.main_arg1)
          ∧ r.2.mem ((c.tc : Thread Cert.AdalnReferenceIdeal.nD Cert.AdalnReferenceIdeal.τ).loc Cert.AdalnReferenceIdeal.main_arg2) = m' ((c.tc : Thread Cert.AdalnReferenceIdeal.nD Cert.AdalnReferenceIdeal.τ).loc Cert.AdalnReferenceIdeal.main_arg2))

def preserves_Residual_ResidualIdeal : Prop :=
  True

def algebraic_ResidualIdeal_ResidualReferenceIdeal [hResidualIdeal : Cert.ResidualIdeal.Facts] [hResidualReferenceIdeal : Cert.ResidualReferenceIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualIdeal m →
    (∀ c : Dev Cert.ResidualIdeal.nD,
      m' ((c.tc : Thread Cert.ResidualReferenceIdeal.nD Cert.ResidualReferenceIdeal.τ).loc Cert.ResidualReferenceIdeal.main_arg0) = m ((c.tc : Thread Cert.ResidualIdeal.nD Cert.ResidualIdeal.τ).loc Cert.ResidualIdeal.main_arg0)
      ∧ m' ((c.tc : Thread Cert.ResidualReferenceIdeal.nD Cert.ResidualReferenceIdeal.τ).loc Cert.ResidualReferenceIdeal.main_arg1) = m ((c.tc : Thread Cert.ResidualIdeal.nD Cert.ResidualIdeal.τ).loc Cert.ResidualIdeal.main_arg1)
      ∧ m' ((c.tc : Thread Cert.ResidualReferenceIdeal.nD Cert.ResidualReferenceIdeal.τ).loc Cert.ResidualReferenceIdeal.main_arg2) = m ((c.tc : Thread Cert.ResidualIdeal.nD Cert.ResidualIdeal.τ).loc Cert.ResidualIdeal.main_arg2)
      ∧ m' ((c.tc : Thread Cert.ResidualReferenceIdeal.nD Cert.ResidualReferenceIdeal.τ).loc Cert.ResidualReferenceIdeal.main_arg3) = m ((c.tc : Thread Cert.ResidualIdeal.nD Cert.ResidualIdeal.τ).loc Cert.ResidualIdeal.main_arg3)
      ∧ m' ((c.tc : Thread Cert.ResidualReferenceIdeal.nD Cert.ResidualReferenceIdeal.τ).loc Cert.ResidualReferenceIdeal.main_arg4) = m ((c.tc : Thread Cert.ResidualIdeal.nD Cert.ResidualIdeal.τ).loc Cert.ResidualIdeal.main_arg4)) →
    ∃ (v0 : (c : Dev Cert.ResidualIdeal.nD) → Buf (Elt Ideal) ((c.tc : Thread Cert.ResidualIdeal.nD Cert.ResidualIdeal.τ).loc Cert.ResidualIdeal.main_v3)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v3) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
          ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v5) = v0 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2)
          ∧ r.2.mem ((c.tc : Thread Cert.ResidualReferenceIdeal.nD Cert.ResidualReferenceIdeal.τ).loc Cert.ResidualReferenceIdeal.main_arg3) = m' ((c.tc : Thread Cert.ResidualReferenceIdeal.nD Cert.ResidualReferenceIdeal.τ).loc Cert.ResidualReferenceIdeal.main_arg3)
          ∧ r.2.mem ((c.tc : Thread Cert.ResidualReferenceIdeal.nD Cert.ResidualReferenceIdeal.τ).loc Cert.ResidualReferenceIdeal.main_arg4) = m' ((c.tc : Thread Cert.ResidualReferenceIdeal.nD Cert.ResidualReferenceIdeal.τ).loc Cert.ResidualReferenceIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts) (hAdaln : Cert.Adaln.Facts) (hAdalnIdeal : Cert.AdalnIdeal.Facts) (hAdalnReferenceIdeal : Cert.AdalnReferenceIdeal.Facts) (hResidual : Cert.Residual.Facts) (hResidualIdeal : Cert.ResidualIdeal.Facts) (hResidualReferenceIdeal : Cert.ResidualReferenceIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_in_range := hPre_in_range)
    ∧ quiescent_ExpertsIdeal (hExpertsIdeal := hExpertsIdeal) (hPre_in_range := hPre_in_range)
    ∧ quiescent_ExpertsReferenceIdeal (hExpertsReferenceIdeal := hExpertsReferenceIdeal)
    ∧ quiescent_ExpertsReferenceIdeal_pre_in_range (hExpertsReferenceIdeal := hExpertsReferenceIdeal) (hPre_in_range := hPre_in_range)
    ∧ quiescent_Dense (hDense := hDense)
    ∧ quiescent_DenseIdeal (hDenseIdeal := hDenseIdeal)
    ∧ quiescent_DenseReferenceIdeal (hDenseReferenceIdeal := hDenseReferenceIdeal)
    ∧ quiescent_Adaln (hAdaln := hAdaln)
    ∧ quiescent_AdalnIdeal (hAdalnIdeal := hAdalnIdeal)
    ∧ quiescent_AdalnReferenceIdeal (hAdalnReferenceIdeal := hAdalnReferenceIdeal)
    ∧ quiescent_Residual (hResidual := hResidual)
    ∧ quiescent_ResidualIdeal (hResidualIdeal := hResidualIdeal)
    ∧ quiescent_ResidualReferenceIdeal (hResidualReferenceIdeal := hResidualReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_in_range := hPre_in_range)
    ∧ preserves_Dense_DenseIdeal
    ∧ algebraic_DenseIdeal_DenseReferenceIdeal (hDenseIdeal := hDenseIdeal) (hDenseReferenceIdeal := hDenseReferenceIdeal)
    ∧ preserves_Adaln_AdalnIdeal
    ∧ algebraic_AdalnIdeal_AdalnReferenceIdeal (hAdalnIdeal := hAdalnIdeal) (hAdalnReferenceIdeal := hAdalnReferenceIdeal)
    ∧ preserves_Residual_ResidualIdeal
    ∧ algebraic_ResidualIdeal_ResidualReferenceIdeal (hResidualIdeal := hResidualIdeal) (hResidualReferenceIdeal := hResidualReferenceIdeal)
-- ==== Pre_finite.lean ====
abbrev S8x4096x512 : Shape := ⟨3, ![8, 4096, 512]⟩
abbrev S8x4096x128 : Shape := ⟨3, ![8, 4096, 128]⟩
abbrev S8x256x128 : Shape := ⟨3, ![8, 256, 128]⟩
abbrev S_ : Shape := ⟨0, ![]⟩

class Facts : Prop where
  bcast_S_S8x4096x512 : S_.BroadcastsInDim S8x4096x512 (![] : Fin 0 → Fin S8x4096x512.rank)
  bcast_S_S8x4096x128 : S_.BroadcastsInDim S8x4096x128 (![] : Fin 0 → Fin S8x4096x128.rank)
  bcast_S_S8x256x128 : S_.BroadcastsInDim S8x256x128 (![] : Fin 0 → Fin S8x256x128.rank)

variable [Facts]

def fn {F : FTy → Type} [FloatOps F] (main_arg0 : FVec F S8x4096x512 .f32) (main_arg1 : FVec F S8x4096x128 .f32) (main_arg2 : FVec F S8x4096x128 .f32) (main_arg3 : FVec F S8x256x128 .f32) (main_arg4 : FVec F S8x256x128 .f32) : IVec S8x4096x512 1 × IVec S8x4096x128 1 × IVec S8x256x128 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_v3 : FVec F S8x4096x128 .f32 := Host.absf main_arg1
  let main_cst_0 : FVec F S_ .f32 := constant S_ .f32 0x7F800000#32
  let main_v4 : FVec F S8x4096x128 .f32 := broadcastInDim S8x4096x128 ![] bcast_S_S8x4096x128 main_cst_0
  let main_v5 : IVec S8x4096x128 1 := cmpf .olt main_v3 main_v4
  let main_v6 : FVec F S8x256x128 .f32 := Host.absf main_arg3
  let main_cst_1 : FVec F S_ .f32 := constant S_ .f32 0x7F800000#32
  let main_v7 : FVec F S8x256x128 .f32 := broadcastInDim S8x256x128 ![] bcast_S_S8x256x128 main_cst_1
  let main_v8 : IVec S8x256x128 1 := cmpf .olt main_v6 main_v7
  (main_v2, main_v5, main_v8)
-- ==== Pre_in_range.lean ====
abbrev S2368 : Shape := ⟨1, ![2368]⟩
abbrev S296 : Shape := ⟨1, ![296]⟩
abbrev S1 : Shape := ⟨1, ![1]⟩
abbrev S73728x1152 : Shape := ⟨2, ![73728, 1152]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S2368 : S_.BroadcastsInDim S2368 (![] : Fin 0 → Fin S2368.rank)
  bcast_S_S296 : S_.BroadcastsInDim S296 (![] : Fin 0 → Fin S296.rank)

variable [Facts]

def fn {F : FTy → Type} [FloatOps F] (main_arg0 : IVec S2368 32) (main_arg1 : IVec S296 32) (main_arg2 : IVec S1 32) (main_arg3 : FVec F S73728x1152 .f32) (main_arg4 : FVec F S8x1024x3584 .f32) (main_arg5 : FVec F S8x1024x3584 .f32) (main_arg6 : FVec F S8x3584x1024 .f32) : IVec S2368 1 × IVec S296 1 :=
  let main_c : IVec S_ 32 := constantI S_ 32 0#32
  let main_v0 : IVec S2368 32 := broadcastInDim S2368 ![] bcast_S_S2368 main_c
  let main_v1 : IVec S2368 1 := cmpi .sge main_arg0 main_v0
  let main_c_0 : IVec S_ 32 := constantI S_ 32 2304#32
  let main_v2 : IVec S2368 32 := broadcastInDim S2368 ![] bcast_S_S2368 main_c_0
  let main_v3 : IVec S2368 1 := cmpi .slt main_arg0 main_v2
  let main_v4 : IVec S2368 1 := andi main_v1 main_v3
  let main_c_1 : IVec S_ 32 := constantI S_ 32 0#32
  let main_v5 : IVec S296 32 := broadcastInDim S296 ![] bcast_S_S296 main_c_1
  let main_v6 : IVec S296 1 := cmpi .sge main_arg1 main_v5
  let main_c_2 : IVec S_ 32 := constantI S_ 32 8#32
  let main_v7 : IVec S296 32 := broadcastInDim S296 ![] bcast_S_S296 main_c_2
  let main_v8 : IVec S296 1 := cmpi .slt main_arg1 main_v7
  let main_v9 : IVec S296 1 := andi main_v6 main_v8
  (main_v4, main_v9)
-- ==== Kernel.lean ====
abbrev S8x4096x512 : Shape := ⟨3, ![8, 4096, 512]⟩
abbrev S8x4096x128 : Shape := ⟨3, ![8, 4096, 128]⟩
abbrev S8x256x128 : Shape := ⟨3, ![8, 256, 128]⟩
abbrev S8x4096x2x4x64 : Shape := ⟨5, ![8, 4096, 2, 4, 64]⟩
abbrev S8x4096x4x2x64 : Shape := ⟨5, ![8, 4096, 4, 2, 64]⟩
abbrev S_ : Shape := ⟨0, ![]⟩
abbrev S8x4352x128 : Shape := ⟨3, ![8, 4352, 128]⟩
abbrev S8x128x4352 : Shape := ⟨3, ![8, 128, 4352]⟩
abbrev S8x4352x256 : Shape := ⟨3, ![8, 4352, 256]⟩
abbrev S1x512x512 : Shape := ⟨3, ![1, 512, 512]⟩
abbrev S1x128x4352 : Shape := ⟨3, ![1, 128, 4352]⟩
abbrev S1x4352x256 : Shape := ⟨3, ![1, 4352, 256]⟩
abbrev S128x128 : Shape := ⟨2, ![128, 128]⟩
abbrev S1x128x128 : Shape := ⟨3, ![1, 128, 128]⟩
abbrev S128x4352 : Shape := ⟨2, ![128, 4352]⟩
abbrev S128 : Shape := ⟨1, ![128]⟩
abbrev S128x1 : Shape := ⟨2, ![128, 1]⟩
abbrev S4352x256 : Shape := ⟨2, ![4352, 256]⟩
abbrev S128x256 : Shape := ⟨2, ![128, 256]⟩

abbrev nBuf : Space → Nat
  | .hbm => 27
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S8x256x128, .f32⟩
  | .hbm, ⟨4, _⟩ => ⟨S8x256x128, .f32⟩
  | .hbm, ⟨5, _⟩ => ⟨S8x4096x2x4x64, .f32⟩
  | .hbm, ⟨6, _⟩ => ⟨S8x4096x4x2x64, .f32⟩
  | .hbm, ⟨7, _⟩ => ⟨S8x4096x512, .f32⟩
  | .hbm, ⟨8, _⟩ => ⟨S_, .f32⟩
  | .hbm, ⟨9, _⟩ => ⟨S8x4096x512, .f32⟩
  | .hbm, ⟨10, _⟩ => ⟨S8x4096x512, .f32⟩
  | .hbm, ⟨11, _⟩ => ⟨S_, .f32⟩
  | .hbm, ⟨12, _⟩ => ⟨S_, .f32⟩
  | .hbm, ⟨13, _⟩ => ⟨S8x4096x512, .f32⟩
  | .hbm, ⟨14, _⟩ => ⟨S8x4096x512, .f32⟩
  | .hbm, ⟨15, _⟩ => ⟨S8x4096x512, .bf16⟩
  | .hbm, ⟨16, _⟩ => ⟨S8x4096x128, .bf16⟩
  | .hbm, ⟨17, _⟩ => ⟨S8x4096x128, .bf16⟩
  | .hbm, ⟨18, _⟩ => ⟨S8x256x128, .bf16⟩
  | .hbm, ⟨19, _⟩ => ⟨S8x256x128, .bf16⟩
  | .hbm, ⟨20, _⟩ => ⟨S8x4352x128, .bf16⟩
  | .hbm, ⟨21, _⟩ => ⟨S8x4352x128, .bf16⟩
  | .hbm, ⟨22, _⟩ => ⟨S8x128x4352, .bf16⟩
  | .hbm, ⟨23, _⟩ => ⟨S_, .bf16⟩
  | .hbm, ⟨24, _⟩ => ⟨S8x4352x128, .bf16⟩
  | .hbm, ⟨25, _⟩ => ⟨S8x4352x256, .bf16⟩
  | .hbm, ⟨26, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x4352, .bf16⟩
  | .local _ .vmem, ⟨3, _⟩ => ⟨S1x128x4352, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x512x512, .bf16⟩
  | .local _ .vmem, ⟨7, _⟩ => ⟨S1x512x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x512 : Shape := ⟨3, ![8, 4096, 512]⟩
abbrev S8x4096x128 : Shape := ⟨3, ![8, 4096, 128]⟩
abbrev S8x256x128 : Shape := ⟨3, ![8, 256, 128]⟩
abbrev S8x4096x2x4x64 : Shape := ⟨5, ![8, 4096, 2, 4, 64]⟩
abbrev S8x4352x128 : Shape := ⟨3, ![8, 4352, 128]⟩
abbrev S8x4352x2x64 : Shape := ⟨4, ![8, 4352, 2, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S8x256x128, .f32⟩
  | .hbm, ⟨4, _⟩ => ⟨S8x256x128, .f32⟩
  | .hbm, ⟨5, _⟩ => ⟨S8x4096x2x4x64, .f32⟩
  | .hbm, ⟨6, _⟩ => ⟨S8x4352x128, .f32⟩
  | .hbm, ⟨7, _⟩ => ⟨S8x4352x2x64, .f32⟩
  | .hbm, ⟨8, _⟩ => ⟨S8x4352x128, .f32⟩
  | .hbm, ⟨9, _⟩ => ⟨S8x4352x2x64, .f32⟩
  | .hbm, ⟨10, _⟩ => ⟨S8x2x4352x4096x4, .f32⟩
  | .hbm, ⟨11, _⟩ => ⟨S8x2x4x4096x4352, .f32⟩
  | .hbm, ⟨12, _⟩ => ⟨S_, .f32⟩
  | .hbm, ⟨13, _⟩ => ⟨S8x2x4x4096x4352, .f32⟩
  | .hbm, ⟨14, _⟩ => ⟨S8x2x4x4096x4352, .f32⟩
  | .hbm, ⟨15, _⟩ => ⟨S_, .f32⟩
  | .hbm, ⟨16, _⟩ => ⟨S8x2x4x4096, .f32⟩
  | .hbm, ⟨17, _⟩ => ⟨S_, .f32⟩
  | .hbm, ⟨18, _⟩ => ⟨S8x2x4x4096, .f32⟩
  | .hbm, ⟨19, _⟩ => ⟨S8x2x4x4096, .f32⟩
  | .hbm, ⟨20, _⟩ => ⟨S8x2x4x4096x1, .f32⟩
  | .hbm, ⟨21, _⟩ => ⟨S8x2x4x4096x4352, .f32⟩
  | .hbm, ⟨22, _⟩ => ⟨S8x2x4x4096x4352, .f32⟩
  | .hbm, ⟨23, _⟩ => ⟨S8x2x4x4096x4352, .f32⟩
  | .hbm, ⟨24, _⟩ => ⟨S_, .f32⟩
  | .hbm, ⟨25, _⟩ => ⟨S8x2x4x4096, .f32⟩
  | .hbm, ⟨26, _⟩ => ⟨S8x2x4x4096x1, .f32⟩
  | .hbm, ⟨27, _⟩ => ⟨S8x2x4x4096x4352, .f32⟩
  | .hbm, ⟨28, _⟩ => ⟨S8x2x4x4096x4352, .f32⟩
  | .hbm, ⟨29, _⟩ => ⟨S8x2x64x4x4096, .f32⟩
  | .hbm, ⟨30, _⟩ => ⟨S8x4096x2x4x64, .f32⟩
  | .hbm, ⟨31, _⟩ => ⟨S8x4096x512, .f32⟩
  | .hbm, ⟨32, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Experts.lean ====
abbrev S2368 : Shape := ⟨1, ![2368]⟩
abbrev S296 : Shape := ⟨1, ![296]⟩
abbrev S1 : Shape := ⟨1, ![1]⟩
abbrev S73728x1152 : Shape := ⟨2, ![73728, 1152]⟩
abbrev S8x1024x3584 : Shape := ⟨3, ![8, 1024, 3584]⟩
abbrev S8x3584x1024 : Shape := ⟨3, ![8, 3584, 1024]⟩
abbrev S75776x1024 : Shape := ⟨2, ![75776, 1024]⟩
abbrev S1x1024x3584 : Shape := ⟨3, ![1, 1024, 3584]⟩
abbrev S1x3584x1024 : Shape := ⟨3, ![1, 3584, 1024]⟩
abbrev S32x1152 : Shape := ⟨2, ![32, 1152]⟩
abbrev S256x1024 : Shape := ⟨2, ![256, 1024]⟩
abbrev S256x1152 : Shape := ⟨2, ![256, 1152]⟩
abbrev S256x128 : Shape := ⟨2, ![256, 128]⟩
abbrev S256 : Shape := ⟨1, ![256]⟩
abbrev S256x1 : Shape := ⟨2, ![256, 1]⟩
abbrev S1x1024x1792 : Shape := ⟨3, ![1, 1024, 1792]⟩
abbrev S1024x1792 : Shape := ⟨2, ![1024, 1792]⟩
abbrev S256x1792 : Shape := ⟨2, ![256, 1792]⟩
abbrev S1x1792x1024 : Shape := ⟨3, ![1, 1792, 1024]⟩
abbrev S1792x1024 : Shape := ⟨2, ![1792, 1024]⟩

abbrev nBuf : Space → Nat
  | .hbm => 9
  | .vmem => 21
  | .smem => 3
  | _ => 0

abbrev bufTy : (tb : Table) → Fin (tcTables nBuf tb) → BufTy
  | .hbm, ⟨0, _⟩ => ⟨S73728x1152, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S73728x1152, .bf16⟩
  | .hbm, ⟨8, _⟩ => ⟨S75776x1024, .bf16⟩
  | .local _ .vmem, ⟨0, _⟩ => ⟨S1x1024x3584, .bf16⟩
  | .local _ .vmem, ⟨1, _⟩ => ⟨S1x1024x3584, .bf16⟩
  | .local _ .vmem, ⟨2, _⟩ => ⟨S1x3584x1024, .bf16⟩
  | .local _ .vmem, ⟨3, _⟩ => ⟨S32x1152, .bf16⟩
  | .local _ .vmem, ⟨4, _⟩ => ⟨S32x1152, .bf16⟩
  | .local _ .vmem, ⟨5, _⟩ => ⟨S32x1152, .bf16⟩
  | .local _ .vmem, ⟨6, _⟩ => ⟨S32x1152, .bf16⟩
  | .local _ .vmem, ⟨7, _⟩ => ⟨S32x1152, .bf16⟩
  | .local _ .vmem, ⟨8, _⟩ => ⟨S32x1152, .bf16⟩
  | .local _ .vmem, ⟨9, _⟩ => ⟨S32x1152, .bf16⟩
  | .local _ .vmem, ⟨10, _⟩ => ⟨S32x1152, .bf16⟩
  | .local _ .vmem, ⟨11, _⟩ => ⟨S32x1152, .bf16⟩
  | .local _ .vmem, ⟨12, _⟩ => ⟨S32x1152, .bf16⟩
  | .local _ .vmem, ⟨13, _⟩ => ⟨S32x1152, .bf16⟩
  | .local _ .vmem, ⟨14, _⟩ => ⟨S32x1152, .bf16⟩
  | .local _ .vmem, ⟨15, _⟩ => ⟨S32x1152, .bf16⟩
  | .local _ .vmem, ⟨16, _⟩ => ⟨S32x1152, .bf16⟩
  | .local _ .vmem, ⟨17, _⟩ => ⟨S32x1152, .bf16⟩
  | .local _ .vmem, ⟨18, _⟩ => ⟨S32x1152, .bf16⟩
  | .local _ .vmem, ⟨19, _⟩ => ⟨S256x1024, .bf16⟩
  | .local _ .vmem, ⟨20, _⟩ => ⟨S256x1024, .bf16⟩
  | .local _ .smem, ⟨0, _⟩ => ⟨S2368, .i32⟩
  | .local _ .smem, ⟨1, _⟩ => ⟨S296, .i32⟩
  | .local _ .smem, ⟨2, _⟩ => ⟨S1, .i32⟩
  | _, _ => ⟨S73728x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![296], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off2_inb : ∀ i : grid0.Coords, ∀ (r : Fin 8), ∀ a, (k0_off2 i (BitVec.ofNat 32 r.val)) a + S1.size a ≤ S2368.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S2368) ![v2.toNat] S1.size (k0_off2_inb i 0)) numel1_S1
  let c0_i32_0 : BitVec 32 := 0#32
  let c0_i32_1 : BitVec 32 := 0#32
  ![v3.toNat, c0_i32_0.toNat]

def cc0_transform_4 (k0_off2_inb : ∀ i : grid0.Coords, ∀ (r : Fin 8), ∀ a, (k0_off2 i (BitVec.ofNat 32 r.val)) a + S1.size a ≤ S2368.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S2368) ![v2.toNat] S1.size (k0_off2_inb i 1)) numel1_S1
  let c0_i32 : BitVec 32 := 0#32
  let c0_i32_0 : BitVec 32 := 0#32
  ![v3.toNat, c0_i32.toNat]

def cc0_transform_5 (k0_off2_inb : ∀ i : grid0.Coords, ∀ (r : Fin 8), ∀ a, (k0_off2 i (BitVec.ofNat 32 r.val)) a + S1.size a ≤ S2368.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S2368) ![v2.toNat] S1.size (k0_off2_inb i 2)) numel1_S1
  let c0_i32 : BitVec 32 := 0#32
  let c0_i32_0 : BitVec 32 := 0#32
  ![v3.toNat, c0_i32.toNat]

def cc0_transform_6 (k0_off2_inb : ∀ i : grid0.Coords, ∀ (r : Fin 8), ∀ a, (k0_off2 i (BitVec.ofNat 32 r.val)) a + S1.size a ≤ S2368.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S2368) ![v2.toNat] S1.size (k0_off2_inb i 3)) numel1_S1
  let c0_i32 : BitVec 32 := 0#32
  let c0_i32_0 : BitVec 32 := 0#32
  ![v3.toNat, c0_i32.toNat]

def cc0_transform_7 (k0_off2_inb : ∀ i : grid0.Coords, ∀ (r : Fin 8), ∀ a, (k0_off2 i (BitVec.ofNat 32 r.val)) a + S1.size a ≤ S2368.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S2368) ![v2.toNat] S1.size (k0_off2_inb i 4)) numel1_S1
  let c0_i32 : BitVec 32 := 0#32
  let c0_i32_0 : BitVec 32 := 0#32
  ![v3.toNat, c0_i32.toNat]

def cc0_transform_8 (k0_off2_inb : ∀ i : grid0.Coords, ∀ (r : Fin 8), ∀ a, (k0_off2 i (BitVec.ofNat 32 r.val)) a + S1.size a ≤ S2368.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S2368) ![v2.toNat] S1.size (k0_off2_inb i 5)) numel1_S1
  let c0_i32 : BitVec 32 := 0#32
  let c0_i32_0 : BitVec 32 := 0#32
  ![v3.toNat, c0_i32.toNat]

def cc0_transform_9 (k0_off2_inb : ∀ i : grid0.Coords, ∀ (r : Fin 8), ∀ a, (k0_off2 i (BitVec.ofNat 32 r.val)) a + S1.size a ≤ S2368.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S2368) ![v2.toNat] S1.size (k0_off2_inb i 6)) numel1_S1
  let c0_i32 : BitVec 32 := 0#32
  let c0_i32_0 : BitVec 32 := 0#32
  ![v3.toNat, c0_i32.toNat]

def cc0_transform_10 (k0_off2_inb : ∀ i : grid0.Coords, ∀ (r : Fin 8), ∀ a, (k0_off2 i (BitVec.ofNat 32 r.val)) a + S1.size a ≤ S2368.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S2368) ![v2.toNat] S1.size (k0_off2_inb i 7)) numel1_S1
  let c0_i32 : BitVec 32 := 0#32
  let c0_i32_0 : BitVec 32 := 0#32
  ![v3.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 2 → Memref sig .tc .vmem S32x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1152 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1152 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1152 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ExpertsReferenceIdeal.lean ====
abbrev S2368 : Shape := ⟨1, ![2368]⟩
abbrev S296 : Shape := ⟨1, ![296]⟩
abbrev S1 : Shape := ⟨1, ![1]⟩
abbrev S73728x1152 : Shape := ⟨2, ![73728, 1152]⟩
abbrev S8x1024x3584 : Shape := ⟨3, ![8, 1024, 3584]⟩
abbrev S8x3584x1024 : Shape := ⟨3, ![8, 3584, 1024]⟩
abbrev S2304x32x1152 : Shape := ⟨3, ![2304, 32, 1152]⟩
abbrev S_ : Shape := ⟨0, ![]⟩
abbrev S2368x1 : Shape := ⟨2, ![2368, 1]⟩
abbrev S2368x32x1152 : Shape := ⟨3, ![2368, 32, 1152]⟩
abbrev S75776x1152 : Shape := ⟨2, ![75776, 1152]⟩
abbrev S75776x1024 : Shape := ⟨2, ![75776, 1024]⟩
abbrev S75776x128 : Shape := ⟨2, ![75776, 128]⟩
abbrev S75776 : Shape := ⟨1, ![75776]⟩
abbrev S75776x1 : Shape := ⟨2, ![75776, 1]⟩
abbrev S296x1 : Shape := ⟨2, ![296, 1]⟩
abbrev S8 : Shape := ⟨1, ![8]⟩
abbrev S1x8 : Shape := ⟨2, ![1, 8]⟩
abbrev S296x8 : Shape := ⟨2, ![296, 8]⟩
abbrev S296x1x8 : Shape := ⟨3, ![296, 1, 8]⟩
abbrev S296x256x8 : Shape := ⟨3, ![296, 256, 8]⟩
abbrev S75776x8 : Shape := ⟨2, ![75776, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S75776x3584 : Shape := ⟨2, ![75776, 3584]⟩

abbrev nBuf : Space → Nat
  | .hbm => 229
  | .vmem => 0
  | .smem => 0
  | _ => 0

abbrev hbmTy0_0 (i : Nat) : BufTy := match i % 128 with
  | 0 => ⟨S2368, .i32⟩
  | 1 => ⟨S296, .i32⟩
  | 2 => ⟨S1, .i32⟩
  | 3 => ⟨S73728x1152, .f32⟩
  | 4 => ⟨S8x1024x3584, .f32⟩
  | 5 => ⟨S8x1024x3584, .f32⟩
  | 6 => ⟨S8x3584x1024, .f32⟩
  | 7 => ⟨S2304x32x1152, .f32⟩
  | 8 => ⟨S_, .i32⟩
  | 9 => ⟨S2368, .i32⟩
  | 10 => ⟨S2368, .i1⟩
  | 11 => ⟨S_, .i32⟩
  | 12 => ⟨S2368, .i32⟩
  | 13 => ⟨S2368, .i32⟩
  | 14 => ⟨S2368, .i32⟩
  | 15 => ⟨S2368x1, .i32⟩
  | 16 => ⟨S2368x32x1152, .f32⟩
  | 17 => ⟨S75776x1152, .f32⟩
  | 18 => ⟨S75776x1024, .f32⟩
  | 19 => ⟨S75776x128, .f32⟩
  | 20 => ⟨S_, .f32⟩
  | 21 => ⟨S75776, .f32⟩
  | 22 => ⟨S75776x1, .f32⟩
  | 23 => ⟨S296, .i32⟩
  | 24 => ⟨S296x1, .i32⟩
  | 25 => ⟨S8, .i32⟩
  | 26 => ⟨S1x8, .i32⟩
  | 27 => ⟨S296x8, .i32⟩
  | 28 => ⟨S296x8, .i32⟩
  | 29 => ⟨S296x8, .i1⟩
  | 30 => ⟨S_, .i32⟩
  | 31 => ⟨S296, .i32⟩
  | 32 => ⟨S296, .i1⟩
  | 33 => ⟨S296x1, .i1⟩
  | 34 => ⟨S296x8, .i1⟩
  | 35 => ⟨S296x8, .i1⟩
  | 36 => ⟨S296x1x8, .i1⟩
  | 37 => ⟨S296x256x8, .i1⟩
  | 38 => ⟨S75776x8, .i1⟩
  | 39 => ⟨S75776x8, .f32⟩
  | 40 => ⟨S75776x8, .f32⟩
  | 41 => ⟨S75776x8, .f32⟩
  | 42 => ⟨S_, .f32⟩
  | 43 => ⟨S75776x1024, .f32⟩
  | 44 => ⟨S75776x1, .f32⟩
  | 45 => ⟨S1x1024x3584, .f32⟩
  | 46 => ⟨S1024x3584, .f32⟩
  | 47 => ⟨S1x1024x3584, .f32⟩
  | 48 => ⟨S1024x3584, .f32⟩
  | 49 => ⟨S1x3584x1024, .f32⟩
  | 50 => ⟨S3584x1024, .f32⟩
  | 51 => ⟨S75776x3584, .f32⟩
  | 52 => ⟨S75776x3584, .f32⟩
  | 53 => ⟨S75776x3584, .f32⟩
  | 54 => ⟨S_, .f32⟩
  | 55 => ⟨S75776x3584, .f32⟩
  | 56 => ⟨S75776x3584, .f32⟩
  | 57 => ⟨S_, .f32⟩
  | 58 => ⟨S75776x3584, .f32⟩
  | 59 => ⟨S75776x3584, .f32⟩
  | 60 => ⟨S75776x3584, .f32⟩
  | 61 => ⟨S75776x3584, .f32⟩
  | 62 => ⟨S75776x3584, .f32⟩
  | 63 => ⟨S75776x1024, .f32⟩
  | 64 => ⟨S75776x1024, .f32⟩
  | 65 => ⟨S75776x1024, .f32⟩
  | 66 => ⟨S75776x1024, .f32⟩
  | 67 => ⟨S75776x1, .f32⟩
  | 68 => ⟨S1x1024x3584, .f32⟩
  | 69 => ⟨S1024x3584, .f32⟩
  | 70 => ⟨S1x1024x3584, .f32⟩
  | 71 => ⟨S1024x3584, .f32⟩
  | 72 => ⟨S1x3584x1024, .f32⟩
  | 73 => ⟨S3584x1024, .f32⟩
  | 74 => ⟨S75776x3584, .f32⟩
  | 75 => ⟨S75776x3584, .f32⟩
  | 76 => ⟨S75776x3584, .f32⟩
  | 77 => ⟨S_, .f32⟩
  | 78 => ⟨S75776x3584, .f32⟩
  | 79 => ⟨S75776x3584, .f32⟩
  | 80 => ⟨S_, .f32⟩
  | 81 => ⟨S75776x3584, .f32⟩
  | 82 => ⟨S75776x3584, .f32⟩
  | 83 => ⟨S75776x3584, .f32⟩
  | 84 => ⟨S75776x3584, .f32⟩
  | 85 => ⟨S75776x3584, .f32⟩
  | 86 => ⟨S75776x1024, .f32⟩
  | 87 => ⟨S75776x1024, .f32⟩
  | 88 => ⟨S75776x1024, .f32⟩
  | 89 => ⟨S75776x1024, .f32⟩
  | 90 => ⟨S75776x1, .f32⟩
  | 91 => ⟨S1x1024x3584, .f32⟩
  | 92 => ⟨S1024x3584, .f32⟩
  | 93 => ⟨S1x1024x3584, .f32⟩
  | 94 => ⟨S1024x3584, .f32⟩
  | 95 => ⟨S1x3584x1024, .f32⟩
  | 96 => ⟨S3584x1024, .f32⟩
  | 97 => ⟨S75776x3584, .f32⟩
  | 98 => ⟨S75776x3584, .f32⟩
  | 99 => ⟨S75776x3584, .f32⟩
  | 100 => ⟨S_, .f32⟩
  | 101 => ⟨S75776x3584, .f32⟩
  | 102 => ⟨S75776x3584, .f32⟩
  | 103 => ⟨S_, .f32⟩
  | 104 => ⟨S75776x3584, .f32⟩
  | 105 => ⟨S75776x3584, .f32⟩
  | 106 => ⟨S75776x3584, .f32⟩
  | 107 => ⟨S75776x3584, .f32⟩
  | 108 => ⟨S75776x3584, .f32⟩
  | 109 => ⟨S75776x1024, .f32⟩
  | 110 => ⟨S75776x1024, .f32⟩
  | 111 => ⟨S75776x1024, .f32⟩
  | 112 => ⟨S75776x1024, .f32⟩
  | 113 => ⟨S75776x1, .f32⟩
  | 114 => ⟨S1x1024x3584, .f32⟩
  | 115 => ⟨S1024x3584, .f32⟩
  | 116 => ⟨S1x1024x3584, .f32⟩
  | 117 => ⟨S1024x3584, .f32⟩
  | 118 => ⟨S1x3584x1024, .f32⟩
  | 119 => ⟨S3584x1024, .f32⟩
  | 120 => ⟨S75776x3584, .f32⟩
  | 121 => ⟨S75776x3584, .f32⟩
  | 122 => ⟨S75776x3584, .f32⟩
  | 123 => ⟨S_, .f32⟩
  | 124 => ⟨S75776x3584, .f32⟩
  | 125 => ⟨S75776x3584, .f32⟩
  | 126 => ⟨S_, .f32⟩
  | 127 => ⟨S75776x3584, .f32⟩
  | _ => ⟨S2368, .i32⟩

abbrev hbmTy0_1 (i : Nat) : BufTy := match i % 128 with
  | 0 => ⟨S75776x3584, .f32⟩
  | 1 => ⟨S75776x3584, .f32⟩
  | 2 => ⟨S75776x3584, .f32⟩
  | 3 => ⟨S75776x3584, .f32⟩
  | 4 => ⟨S75776x1024, .f32⟩
  | 5 => ⟨S75776x1024, .f32⟩
  | 6 => ⟨S75776x1024, .f32⟩
  | 7 => ⟨S75776x1024, .f32⟩
  | 8 => ⟨S75776x1, .f32⟩
  | 9 => ⟨S1x1024x3584, .f32⟩
  | 10 => ⟨S1024x3584, .f32⟩
  | 11 => ⟨S1x1024x3584, .f32⟩
  | 12 => ⟨S1024x3584, .f32⟩
  | 13 => ⟨S1x3584x1024, .f32⟩
  | 14 => ⟨S3584x1024, .f32⟩
  | 15 => ⟨S75776x3584, .f32⟩
  | 16 => ⟨S75776x3584, .f32⟩
  | 17 => ⟨S75776x3584, .f32⟩
  | 18 => ⟨S_, .f32⟩
  | 19 => ⟨S75776x3584, .f32⟩
  | 20 => ⟨S75776x3584, .f32⟩
  | 21 => ⟨S_, .f32⟩
  | 22 => ⟨S75776x3584, .f32⟩
  | 23 => ⟨S75776x3584, .f32⟩
  | 24 => ⟨S75776x3584, .f32⟩
  | 25 => ⟨S75776x3584, .f32⟩
  | 26 => ⟨S75776x3584, .f32⟩
  | 27 => ⟨S75776x1024, .f32⟩
  | 28 => ⟨S75776x1024, .f32⟩
  | 29 => ⟨S75776x1024, .f32⟩
  | 30 => ⟨S75776x1024, .f32⟩
  | 31 => ⟨S75776x1, .f32⟩
  | 32 => ⟨S1x1024x3584, .f32⟩
  | 33 => ⟨S1024x3584, .f32⟩
  | 34 => ⟨S1x1024x3584, .f32⟩
  | 35 => ⟨S1024x3584, .f32⟩
  | 36 => ⟨S1x3584x1024, .f32⟩
  | 37 => ⟨S3584x1024, .f32⟩
  | 38 => ⟨S75776x3584, .f32⟩
  | 39 => ⟨S75776x3584, .f32⟩
  | 40 => ⟨S75776x3584, .f32⟩
  | 41 => ⟨S_, .f32⟩
  | 42 => ⟨S75776x3584, .f32⟩
  | 43 => ⟨S75776x3584, .f32⟩
  | 44 => ⟨S_, .f32⟩
  | 45 => ⟨S75776x3584, .f32⟩
  | 46 => ⟨S75776x3584, .f32⟩
  | 47 => ⟨S75776x3584, .f32⟩
  | 48 => ⟨S75776x3584, .f32⟩
  | 49 => ⟨S75776x3584, .f32⟩
  | 50 => ⟨S75776x1024, .f32⟩
  | 51 => ⟨S75776x1024, .f32⟩
  | 52 => ⟨S75776x1024, .f32⟩
  | 53 => ⟨S75776x1024, .f32⟩
  | 54 => ⟨S75776x1, .f32⟩
  | 55 => ⟨S1x1024x3584, .f32⟩
  | 56 => ⟨S1024x3584, .f32⟩
  | 57 => ⟨S1x1024x3584, .f32⟩
  | 58 => ⟨S1024x3584, .f32⟩
  | 59 => ⟨S1x3584x1024, .f32⟩
  | 60 => ⟨S3584x1024, .f32⟩
  | 61 => ⟨S75776x3584, .f32⟩
  | 62 => ⟨S75776x3584, .f32⟩
  | 63 => ⟨S75776x3584, .f32⟩
  | 64 => ⟨S_, .f32⟩
  | 65 => ⟨S75776x3584, .f32⟩
  | 66 => ⟨S75776x3584, .f32⟩
  | 67 => ⟨S_, .f32⟩
  | 68 => ⟨S75776x3584, .f32⟩
  | 69 => ⟨S75776x3584, .f32⟩
  | 70 => ⟨S75776x3584, .f32⟩
  | 71 => ⟨S75776x3584, .f32⟩
  | 72 => ⟨S75776x3584, .f32⟩
  | 73 => ⟨S75776x1024, .f32⟩
  | 74 => ⟨S75776x1024, .f32⟩
  | 75 => ⟨S75776x1024, .f32⟩
  | 76 => ⟨S75776x1024, .f32⟩
  | 77 => ⟨S75776x1, .f32⟩
  | 78 => ⟨S1x1024x3584, .f32⟩
  | 79 => ⟨S1024x3584, .f32⟩
  | 80 => ⟨S1x1024x3584, .f32⟩
  | 81 => ⟨S1024x3584, .f32⟩
  | 82 => ⟨S1x3584x1024, .f32⟩
  | 83 => ⟨S3584x1024, .f32⟩
  | 84 => ⟨S75776x3584, .f32⟩
  | 85 => ⟨S75776x3584, .f32⟩
  | 86 => ⟨S75776x3584, .f32⟩
  | 87 => ⟨S_, .f32⟩
  | 88 => ⟨S75776x3584, .f32⟩
  | 89 => ⟨S75776x3584, .f32⟩
  | 90 => ⟨S_, .f32⟩
  | 91 => ⟨S75776x3584, .f32⟩
  | 92 => ⟨S75776x3584, .f32⟩
  | 93 => ⟨S75776x3584, .f32⟩
  | 94 => ⟨S75776x3584, .f32⟩
  | 95 => ⟨S75776x3584, .f32⟩
  | 96 => ⟨S75776x1024, .f32⟩
  | 97 => ⟨S75776x1024, .f32⟩
  | 98 => ⟨S75776x1024, .f32⟩
  | 99 => ⟨S75776x1024, .f32⟩
  | 100 => ⟨S75776x1024, .bf16⟩
  | _ => ⟨S2368, .i32⟩

abbrev hbmTy (i : Nat) : BufTy := match i / 128 with
  | 0 => hbmTy0_0 i
  | 1 => hbmTy0_1 i
  | _ => ⟨S2368, .i32⟩

abbrev bufTy : (tb : Table) → Fin (tcTables nBuf tb) → BufTy
  | .hbm, ⟨i, _⟩ => hbmTy i
  | _, _ => ⟨S2368, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call3_v0 : Ref sig .tc := ⟨.hbm, 121, rfl⟩
abbrev main_call3_v1 : Ref sig .tc := ⟨.hbm, 122, rfl⟩
abbrev main_call3_cst : Ref sig .tc := ⟨.hbm, 123, rfl⟩
abbrev main_call3_v2 : Ref sig .tc := ⟨.hbm, 124, rfl⟩
abbrev main_call3_v3 : Ref sig .tc := ⟨.hbm, 125, rfl⟩
abbrev main_call3_cst_0 : Ref sig .tc := ⟨.hbm, 126, rfl⟩
abbrev main_call3_v4 : Ref sig .tc := ⟨.hbm, 127, rfl⟩
abbrev main_call3_v5 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call4_v0 : Ref sig .tc := ⟨.hbm, 144, rfl⟩
abbrev main_call4_v1 : Ref sig .tc := ⟨.hbm, 145, rfl⟩
abbrev main_call4_cst : Ref sig .tc := ⟨.hbm, 146, rfl⟩
abbrev main_call4_v2 : Ref sig .tc := ⟨.hbm, 147, rfl⟩
abbrev main_call4_v3 : Ref sig .tc := ⟨.hbm, 148, rfl⟩
abbrev main_call4_cst_0 : Ref sig .tc := ⟨.hbm, 149, rfl⟩
abbrev main_call4_v4 : Ref sig .tc := ⟨.hbm, 150, rfl⟩
abbrev main_call4_v5 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_call5_v0 : Ref sig .tc := ⟨.hbm, 167, rfl⟩
abbrev main_call5_v1 : Ref sig .tc := ⟨.hbm, 168, rfl⟩
abbrev main_call5_cst : Ref sig .tc := ⟨.hbm, 169, rfl⟩
abbrev main_call5_v2 : Ref sig .tc := ⟨.hbm, 170, rfl⟩
abbrev main_call5_v3 : Ref sig .tc := ⟨.hbm, 171, rfl⟩
abbrev main_call5_cst_0 : Ref sig .tc := ⟨.hbm, 172, rfl⟩
abbrev main_call5_v4 : Ref sig .tc := ⟨.hbm, 173, rfl⟩
abbrev main_call5_v5 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_call6_v0 : Ref sig .tc := ⟨.hbm, 190, rfl⟩
abbrev main_call6_v1 : Ref sig .tc := ⟨.hbm, 191, rfl⟩
abbrev main_call6_cst : Ref sig .tc := ⟨.hbm, 192, rfl⟩
abbrev main_call6_v2 : Ref sig .tc := ⟨.hbm, 193, rfl⟩
abbrev main_call6_v3 : Ref sig .tc := ⟨.hbm, 194, rfl⟩
abbrev main_call6_cst_0 : Ref sig .tc := ⟨.hbm, 195, rfl⟩
abbrev main_call6_v4 : Ref sig .tc := ⟨.hbm, 196, rfl⟩
abbrev main_call6_v5 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_call7_v0 : Ref sig .tc := ⟨.hbm, 213, rfl⟩
abbrev main_call7_v1 : Ref sig .tc := ⟨.hbm, 214, rfl⟩
abbrev main_call7_cst : Ref sig .tc := ⟨.hbm, 215, rfl⟩
abbrev main_call7_v2 : Ref sig .tc := ⟨.hbm, 216, rfl⟩
abbrev main_call7_v3 : Ref sig .tc := ⟨.hbm, 217, rfl⟩
abbrev main_call7_cst_0 : Ref sig .tc := ⟨.hbm, 218, rfl⟩
abbrev main_call7_v4 : Ref sig .tc := ⟨.hbm, 219, rfl⟩
abbrev main_call7_v5 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩

abbrev nD : Nat := 1
abbrev τ : Topo := Topo.v7x

variable {F : FTy → Type} [FloatOps F]
-- ==== Dense.lean ====
abbrev S8x4096x1024 : Shape := ⟨3, ![8, 4096, 1024]⟩
abbrev S8x8x1024 : Shape := ⟨3, ![8, 8, 1024]⟩
abbrev S1024x2816 : Shape := ⟨2, ![1024, 2816]⟩
abbrev S2816x1024 : Shape := ⟨2, ![2816, 1024]⟩
abbrev S1x512x1024 : Shape := ⟨3, ![1, 512, 1024]⟩
abbrev S1x8x1024 : Shape := ⟨3, ![1, 8, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x8x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DenseReferenceIdeal.lean ====
abbrev S8x4096x1024 : Shape := ⟨3, ![8, 4096, 1024]⟩
abbrev S8x8x1024 : Shape := ⟨3, ![8, 8, 1024]⟩
abbrev S1024x2816 : Shape := ⟨2, ![1024, 2816]⟩
abbrev S2816x1024 : Shape := ⟨2, ![2816, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x8x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Adaln.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x512 : Shape := ⟨3, ![1, 1024, 512]⟩
abbrev S1x1x512 : Shape := ⟨3, ![1, 1, 512]⟩
abbrev S1x16x512 : Shape := ⟨3, ![1, 16, 512]⟩
abbrev S1024x512 : Shape := ⟨2, ![1024, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnReferenceIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S16x2x6144 : Shape := ⟨3, ![16, 2, 6144]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x2x6144, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Residual.lean ====
abbrev S8x4096x512 : Shape := ⟨3, ![8, 4096, 512]⟩
abbrev S1024x1024 : Shape := ⟨2, ![1024, 1024]⟩
abbrev S8x4096x1024 : Shape := ⟨3, ![8, 4096, 1024]⟩
abbrev S8x8x1024 : Shape := ⟨3, ![8, 8, 1024]⟩
abbrev S1x1024x512 : Shape := ⟨3, ![1, 1024, 512]⟩
abbrev S1x1024x1024 : Shape := ⟨3, ![1, 1024, 1024]⟩
abbrev S1x8x1024 : Shape := ⟨3, ![1, 8, 1024]⟩
abbrev S1024x512 : Shape := ⟨2, ![1024, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S1024x1024, .f32⟩
  | .hbm, ⟨3, _⟩ => ⟨S8x4096x1024, .f32⟩
  | .hbm, ⟨4, _⟩ => ⟨S8x8x1024, .f32⟩
  | .hbm, ⟨5, _⟩ => ⟨S8x4096x512, .bf16⟩
  | .hbm, ⟨6, _⟩ => ⟨S8x4096x512, .bf16⟩
  | .hbm, ⟨7, _⟩ => ⟨S1024x1024, .bf16⟩
  | .hbm, ⟨8, _⟩ => ⟨S8x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x1024x1024, .f32⟩
  | .local _ .vmem, ⟨10, _⟩ => ⟨S1x1024x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ResidualReferenceIdeal.lean ====
abbrev S8x4096x512 : Shape := ⟨3, ![8, 4096, 512]⟩
abbrev S1024x1024 : Shape := ⟨2, ![1024, 1024]⟩
abbrev S8x4096x1024 : Shape := ⟨3, ![8, 4096, 1024]⟩
abbrev S8x8x1024 : Shape := ⟨3, ![8, 8, 1024]⟩
abbrev S8x1x1024 : Shape := ⟨3, ![8, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S1024x1024, .f32⟩
  | .hbm, ⟨3, _⟩ => ⟨S8x4096x1024, .f32⟩
  | .hbm, ⟨4, _⟩ => ⟨S8x8x1024, .f32⟩
  | .hbm, ⟨5, _⟩ => ⟨S8x1x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Gqa.Attend.lean ====
module

public import proofs.«01_k».proof.Proof.Gen.KernelIdeal.Frame
public import Idealize.ShloMosaic.Lib.Pipeline.ValueKit

@[expose] public section

set_option maxRecDepth 16384

noncomputable section

/-! # One tile of the attention body, read at an element -/

namespace Cert.Gqa

open Idealize.ShloMosaic Idealize.ShloMosaic.TcCoe Idealize.SL.Sem
open Cert.KernelIdeal Cert.KernelIdeal.Gen

variable {F : FTy → Type} [FloatOps F]

/-- The lane number along the second axis of a tile. -/
def lanes : IVec S128x128 32 := iota .tc S128x128 32 [1] iota_S128x128_d1_w32

/-- The lanes of the first key head. -/
def lower : IVec S128x128 1 := cmpi .slt lanes (broadcast S128x128 64#32)

/-- The lanes of the second key head. -/
def upper : IVec S128x128 1 := cmpi .sge lanes (broadcast S128x128 64#32)

/-- The scores of a tile of queries, the lanes outside `own` set to zero, against all the keys. -/
def scores (own : IVec S128x128 1) (q : Vec F S1x128x128 .bf16) (k : Vec F S1x128x4352 .bf16) : FVec F S128x4352 .f32 :=
  matmul dot_S128x128_S128x4352_S128x4352_1_0_0_1_n_n none
    (select own (shapeCast S128x128 q shapeCasts_S1x128x128_S128x128) (broadcast S128x128 (Scalar.ofBits .bf16 0x0000#16)))
    (shapeCast S128x4352 k shapeCasts_S1x128x4352_S128x4352) (constant S128x4352 .f32 0x00000000#32)

/-- The powers of two of the scores less their row's maximum. -/
def weights (s : FVec F S128x4352 .f32) : FVec F S128x4352 .f32 :=
  exp2 (subf s (broadcastTo S128x4352
    (shapeCast S128x1 (multiReduction .maximumf [1] S128 s 0xFF800000#32 reduces_S128x4352_S128 (.inl rfl) rfl) shapeCasts_S128_S128x1)
    broadcasts_S128x1_S128x4352))

/-- The weighted sums of the values, and of the columns of ones beside them. -/
def sums (w : FVec F S128x4352 .f32) (v : Vec F S1x4352x256 .bf16) : FVec F S128x256 .f32 :=
  matmul dot_S128x4352_S4352x256_S128x256_1_0_0_1_n_n none (truncf .bf16 w bitsLt_bf16_f32)
    (shapeCast S4352x256 v shapeCasts_S1x4352x256_S4352x256) (constant S128x256 .f32 0x00000000#32)

/-- The weighted sums of the values over the sum of the weights. -/
def quotient (o : FVec F S128x256 .f32) : FVec F S128x128 .f32 :=
  divf (extractStridedSlice S128x128 ![0, 0] o slices_S128x256_o0_0_S128x128)
    (broadcastTo S128x128 (extractStridedSlice S128x1 ![0, 128] o slices_S128x256_o0_128_S128x1) broadcasts_S128x1_S128x128)

/-- The attention of one tile of one query head's rows. -/
def attend (own : IVec S128x128 1) (q : Vec F S1x128x128 .bf16) (k : Vec F S1x128x4352 .bf16) (v : Vec F S1x4352x256 .bf16) :
    FVec F S128x128 .f32 :=
  quotient (sums (weights (scores own q k)) v)

/-- Two heads side by side in one stored tile. -/
def beside (a b : FVec F S128x128 .f32) : FVec F S1x128x128 .bf16 :=
  shapeCast S1x128x128 (truncf .bf16 (select lower a b) bitsLt_bf16_f32) shapeCasts_S128x128_S1x128x128

/-- The other half of the lanes in front. -/
def turned (a : FVec F S128x128 .f32) : FVec F S128x128 .f32 := dynamicRotate 1 64#32 none a rotates_S128x128_d1

/-- A stored tile of two heads of the first key head. -/
def tileLo (qa qb : Vec F S1x128x128 .bf16) (k : Vec F S1x128x4352 .bf16) (v : Vec F S1x4352x256 .bf16) : FVec F S1x128x128 .bf16 :=
  beside (attend lower qa k v) (turned (attend lower qb k v))

/-- A stored tile of two heads of the second key head. -/
def tileHi (qa qb : Vec F S1x128x128 .bf16) (k : Vec F S1x128x4352 .bf16) (v : Vec F S1x4352x256 .bf16) : FVec F S1x128x128 .bf16 :=
  beside (turned (attend upper qa k v)) (attend upper qb k v)

/-! The sixteen stored values are tiles of these two kinds. -/

section pieces

variable (qa qb : Vec F S1x128x128 .bf16) (k : Vec F S1x128x4352 .bf16) (v : Vec F S1x4352x256 .bf16)

theorem piece_384_384 : k0_pay1 lanes (k0_pay54 (k0_pay53 lanes qa k) v) (k0_pay55 lanes qb k) v = tileHi qa qb k v := rfl
theorem piece_256_384 : k0_pay52 lanes (k0_pay49 lanes qa k v) (k0_pay50 lanes qb) (k0_pay51 k) (constant S128x4352 .f32 0x00000000#32) v = tileHi qa qb k v := rfl
theorem piece_128_384 : k0_pay48 (k0_pay47 lanes (k0_pay46 lanes qa k) v qb k v) = tileHi qa qb k v := rfl
theorem piece_0_384 : k0_pay45 lanes (k0_pay42 lanes qa k v) (k0_pay43 qb) (k0_pay44 lanes) (Scalar.ofBits (F := F) .bf16 0x0000#16) k v = tileHi qa qb k v := rfl
theorem piece_384_256 : k0_pay41 lanes (k0_pay37 (k0_pay36 lanes qa) k v) (k0_pay39 lanes qb k v) (k0_pay40 lanes qb k v) = tileHi qa qb k v := rfl
theorem piece_256_256 : k0_pay35 lanes (k0_pay34 lanes qa k v) qb k v = tileHi qa qb k v := rfl
theorem piece_128_256 : k0_pay33 lanes (k0_pay31 lanes qa k v) (k0_pay32 lanes qb k) v = tileHi qa qb k v := rfl
theorem piece_0_256 : k0_pay30 lanes (k0_pay29 lanes qa k) v qb k v = tileHi qa qb k v := rfl
theorem piece_384_128 : k0_pay28 lanes (k0_pay26 lanes qa k v) (k0_pay27 lanes qb k) v = tileLo qa qb k v := rfl
theorem piece_256_128 : k0_pay25 (k0_pay24 lanes (k0_pay22 lanes qa k) (k0_pay23 lanes qa k) v qb k v) = tileLo qa qb k v := rfl
theorem piece_128_128 : k0_pay21 lanes (k0_pay19 lanes qa k v) (k0_pay20 lanes qb) k v = tileLo qa qb k v := rfl
theorem piece_0_128 : k0_pay18 lanes (k0_pay16 (k0_pay15 lanes qa) k v) (k0_pay17 lanes qb k v) 64#32 = tileLo qa qb k v := rfl
theorem piece_384_0 : k0_pay14 lanes (k0_pay13 lanes qa k v) qb k v = tileLo qa qb k v := rfl
theorem piece_256_0 : k0_pay12 lanes (k0_pay10 lanes (k0_pay9 qa) k v) (k0_pay11 lanes qb k) v = tileLo qa qb k v := rfl
theorem piece_128_0 : k0_pay8 lanes (k0_pay6 lanes qa k) (k0_pay7 v) (constant S128x256 .f32 0x00000000#32) qb k v = tileLo qa qb k v := rfl
theorem piece_0_0 : k0_pay5 lanes (k0_pay2 qa k v) (k0_pay3 qb k) (k0_pay4 qb k) v = tileLo qa qb k v := rfl

end pieces

/-- The mean of `v`, weighted by the powers of two of `s` less its maximum; `o` stands for the ones the weights are summed with. -/
def mean2 (s v o : Fin 4352 → EReal) : EReal :=
  Ideal.div (∑ j, Ideal.exp2 (s j - Finset.univ.fold max ⊥ s) * v j) (∑ j, Ideal.exp2 (s j - Finset.univ.fold max ⊥ s) * o j)

theorem mean2_congr {s v o s' v' o' : Fin 4352 → EReal} (hs : ∀ j, s j = s' j) (hv : ∀ j, v j = v' j) (ho : ∀ j, o j = o' j) :
    mean2 s v o = mean2 s' v' o' := by
  rw [funext hs, funext hv, funext ho]

theorem negInf : Ideal.ofBits FTy.f32 0xFF800000#32 = ⊥ := by
  simp [Ideal.ofBits, Ideal.ieee]

theorem weights_at (s : FVec Ideal S128x4352 .f32) (i : Fin 128) (j : Fin 4352) :
    weights s (ix2 i j) = Ideal.exp2 (s (ix2 i j) - Finset.univ.fold max ⊥ fun j => s (ix2 i j)) := by
  pointwise [weights]
  rw [← negInf]
  rfl

theorem lower_at (i l : Fin 128) (a b : EReal) : Scalar.select (lower (ix2 i l)) a b = if (l : ℕ) < 64 then a else b := by
  pointwise [lower, lanes]
  word_cmp

theorem upper_at (i l : Fin 128) (a b : EReal) : Scalar.select (upper (ix2 i l)) a b = if 64 ≤ (l : ℕ) then a else b := by
  pointwise [upper, lanes]
  word_cmp

theorem scores_lower_at (q : Vec Ideal S1x128x128 .bf16) (k : Vec Ideal S1x128x4352 .bf16) (i : Fin 128) (j : Fin 4352) :
    scores lower q k (ix2 i j) = ∑ d : Fin 64, q (ix3 0 i ⟨d, by omega⟩) * k (ix3 0 ⟨d, by omega⟩ j) := by
  pointwise [scores]
  simp only [lower_at]
  rw [Fin.sum_univ_two_halves 64 64 rfl]
  refine (congrArg₂ (· + ·) (Finset.sum_congr rfl fun d _ => if_pos d.isLt) (Finset.sum_eq_zero fun d _ => if_neg ?_)).trans (add_zero _)
  simp

theorem scores_upper_at (q : Vec Ideal S1x128x128 .bf16) (k : Vec Ideal S1x128x4352 .bf16) (i : Fin 128) (j : Fin 4352) :
    scores upper q k (ix2 i j) = ∑ d : Fin 64, q (ix3 0 i ⟨64 + d, by omega⟩) * k (ix3 0 ⟨64 + d, by omega⟩ j) := by
  pointwise [scores]
  simp only [upper_at]
  rw [Fin.sum_univ_two_halves 64 64 rfl, Finset.sum_eq_zero fun d _ => if_neg (by simp), zero_add]
  exact Finset.sum_congr rfl fun d _ => if_pos (by simp)

theorem attend_at (own : IVec S128x128 1) (q : Vec Ideal S1x128x128 .bf16) (k : Vec Ideal S1x128x4352 .bf16)
    (v : Vec Ideal S1x4352x256 .bf16) (i l : Fin 128) :
    attend own q k v (ix2 i l)
      = mean2 (fun j => scores own q k (ix2 i j)) (fun j => v (ix3 0 j ⟨l, by omega⟩)) (fun j => v (ix3 0 j 128)) := by
  pointwise [attend, quotient, sums, weights_at]
  rfl

theorem tileLo_at (qa qb : Vec Ideal S1x128x128 .bf16) (k : Vec Ideal S1x128x4352 .bf16) (v : Vec Ideal S1x4352x256 .bf16)
    (u : Fin 1) (i l : Fin 128) : tileLo qa qb k v (ix3 u i l)
      = mean2 (fun j => ∑ d : Fin 64, (if (l : ℕ) < 64 then qa else qb) (ix3 0 i ⟨d, by omega⟩) * k (ix3 0 ⟨d, by omega⟩ j))
          (fun j => v (ix3 0 j ⟨(l : ℕ) % 64, by omega⟩)) (fun j => v (ix3 0 j 128)) := by
  pointwise [tileLo, beside, turned, lower_at]
  by_cases h : (l : ℕ) < 64
  · simp only [if_pos h, attend_at, scores_lower_at]
    refine mean2_congr (fun j => rfl) (fun j => ?_) (fun j => rfl)
    blk_ext
  · simp only [if_neg h, attend_at, scores_lower_at]
    refine mean2_congr (fun j => rfl) (fun j => ?_) (fun j => rfl)
    blk_ext

theorem tileHi_at (qa qb : Vec Ideal S1x128x128 .bf16) (k : Vec Ideal S1x128x4352 .bf16) (v : Vec Ideal S1x4352x256 .bf16)
    (u : Fin 1) (i l : Fin 128) : tileHi qa qb k v (ix3 u i l)
      = mean2 (fun j => ∑ d : Fin 64, (if (l : ℕ) < 64 then qa else qb) (ix3 0 i ⟨64 + d, by omega⟩) * k (ix3 0 ⟨64 + d, by omega⟩ j))
          (fun j => v (ix3 0 j ⟨64 + (l : ℕ) % 64, by omega⟩)) (fun j => v (ix3 0 j 128)) := by
  pointwise [tileHi, beside, turned, lower_at]
  by_cases h : (l : ℕ) < 64
  · simp only [if_pos h, attend_at, scores_upper_at]
    refine mean2_congr (fun j => rfl) (fun j => ?_) (fun j => rfl)
    blk_ext
  · simp only [if_neg h, attend_at, scores_upper_at]
    refine mean2_congr (fun j => rfl) (fun j => ?_) (fun j => rfl)
    blk_ext

/-- What the body leaves in the output's buffer, at row `r` and column `c`: head `c / 64` reads the query columns of its own
    lanes, the keys and the values of key head `c / 256`. -/
theorem out_at (b0 : Vec Ideal S1x512x512 .bf16) (b1 : Vec Ideal S1x128x4352 .bf16) (b2 : Vec Ideal S1x4352x256 .bf16)
    (r c : Fin 512) : out0_3 b0 b1 b2 (ix3 0 r c)
      = mean2 (fun j => ∑ d : Fin 64, b0 (ix3 0 r ⟨(c : ℕ) / 64 % 4 * 128 + (c : ℕ) / 256 * 64 + d, by omega⟩)
            * b1 (ix3 0 ⟨(c : ℕ) / 256 * 64 + d, by omega⟩ j))
          (fun j => b2 (ix3 0 j ⟨(c : ℕ) / 256 * 64 + (c : ℕ) % 64, by omega⟩)) (fun j => b2 (ix3 0 j 128)) := by
  canon_tiles x h
  all_goals
    simp only [show k0_pay56 b0 b1 b2 = lanes from rfl, piece_384_384, piece_256_384, piece_128_384, piece_0_384, piece_384_256,
      piece_256_256, piece_128_256, piece_0_256, piece_384_128, piece_256_128, piece_128_128, piece_0_128, piece_384_0,
      piece_256_0, piece_128_0, piece_0_0]
    idx_vars x
    first | rw [tileHi_at] | rw [tileLo_at]
    refine mean2_congr (fun j => Finset.sum_congr rfl fun d _ => Ideal.mul_congr ?_ ?_) (fun j => ?_) (fun j => ?_)
  all_goals first
    | (split <;> pointwise <;> blk_ext)
    | (pointwise <;> blk_ext)

end Cert.Gqa

end
-- ==== Proof.Gqa.Spec.lean ====
module

public import proofs.«01_k».proof.Proof.Gen.ReferenceIdeal.Run
public import proofs.«01_k».proof.Proof.Gen.ReferenceIdeal.Read
public import Idealize.ShloMosaic.Lib.Pipeline.ValueKit

@[expose] public section

set_option maxRecDepth 16384

noncomputable section

/-! # The reference attention, read at an element -/

namespace Cert.Gqa

open Idealize.ShloMosaic Idealize.ShloMosaic.TcCoe Idealize.SL.Sem
open Cert.ReferenceIdeal Cert.ReferenceIdeal.Gen

/-- The mean of `v`, weighted by the softmax of `s`. -/
def mean (s v : Fin 4352 → EReal) : EReal :=
  ∑ j, v j * Ideal.div (Ideal.exp (s j - max ⊥ (Finset.univ.fold max ⊥ s))) (∑ j, Ideal.exp (s j - max ⊥ (Finset.univ.fold max ⊥ s)))

theorem negInfinity : Ideal.ofBits FTy.f32 0xFF800000#32 = ⊥ := by
  simp [Ideal.ofBits, Ideal.ieee]

variable (q : FVec Ideal S8x4096x512 .f32) (k v : FVec Ideal S8x4096x128 .f32) (kc vc : FVec Ideal S8x256x128 .f32)

theorem top_of (s : FVec Ideal S8x2x4x4096x4352 .f32) (b : Fin 8) (h : Fin 2) (g : Fin 4) (r : Fin 4096) :
    Host.reduce (FloatOps.maximumf (F := Ideal) (φ := .f32)) s (constant (F := Ideal) S_ .f32 0xFF800000#32) reducesTo_S8x2x4x4096x4352_S8x2x4x4096_d4 h_S_ (ix4 b h g r)
      = Finset.univ.fold max ⊥ fun j => s (ix5 b h g r j) := by
  pointwise
  rw [negInfinity]

theorem top_at (b : Fin 8) (h : Fin 2) (g : Fin 4) (r : Fin 4096) :
    Read.val_main_v11 (F := Ideal) q k kc (ix4 b h g r)
      = max ⊥ (Finset.univ.fold max ⊥ fun j => Read.val_main_v8 (F := Ideal) q k kc (ix5 b h g r j)) := by
  rw [Read.val_main_v11_apply, Read.val_main_v10_apply, Read.val_main_cst_1_apply]
  unfold Read.val_main_v9 Read.val_main_cst_0
  generalize Read.val_main_v8 (F := Ideal) q k kc = s
  exact congrArg₂ max negInfinity (top_of s b h g r)

theorem power_at (b : Fin 8) (h : Fin 2) (g : Fin 4) (r : Fin 4096) (j : Fin 4352) :
    Read.val_main_v15 (F := Ideal) q k kc (ix5 b h g r j)
      = Ideal.exp (Read.val_main_v8 (F := Ideal) q k kc (ix5 b h g r j) - Read.val_main_v11 (F := Ideal) q k kc (ix4 b h g r)) := by
  rw [Read.val_main_v15_apply, Read.val_main_v14_apply, Read.val_main_v13_apply, Read.val_main_v12_apply]
  rw [show Read.idx_main_v12 (Read.idx_main_v13 (ix5 b h g r j)) = ix4 b h g r by funext a; fin_cases a <;> rfl]
  rfl

theorem weight_at (b : Fin 8) (h : Fin 2) (g : Fin 4) (r : Fin 4096) (j : Fin 4352) :
    Read.val_main_v19 (F := Ideal) q k kc (ix5 b h g r j)
      = Ideal.div (Read.val_main_v15 (F := Ideal) q k kc (ix5 b h g r j)) (∑ j, Read.val_main_v15 (F := Ideal) q k kc (ix5 b h g r j)) := by
  unfold Read.val_main_v19 Read.val_main_v18 Read.val_main_v17 Read.val_main_v16 Read.val_main_cst_2
  generalize Read.val_main_v15 (F := Ideal) q k kc = p
  pointwise

theorem keys_split (K : FVec Ideal S8x4352x128 .f32) (b : Fin 8) (j : Fin 4352) (h : Fin 2) (d : Fin 64) :
    shapeCast S8x4352x2x64 K shapeCasts_S8x4352x128_S8x4352x2x64 (ix4 b j h d) = K (ix3 b j ⟨(h : ℕ) * 64 + d, by omega⟩) := by
  pointwise

theorem queries_split (Q : FVec Ideal S8x4096x512 .f32) (b : Fin 8) (r : Fin 4096) (h : Fin 2) (g : Fin 4) (d : Fin 64) :
    shapeCast S8x4096x2x4x64 Q shapeCasts_S8x4096x512_S8x4096x2x4x64 (ix5 b r h g d)
      = Q (ix3 b r ⟨(h : ℕ) * 256 + (g : ℕ) * 64 + d, by omega⟩) := by
  pointwise

theorem score_at (b : Fin 8) (h : Fin 2) (g : Fin 4) (r : Fin 4096) (j : Fin 4352) :
    Read.val_main_v8 (F := Ideal) q k kc (ix5 b h g r j)
      = (∑ d : Fin 64, Read.val_main_v1 (F := Ideal) k kc (ix3 b j ⟨(h : ℕ) * 64 + d, by omega⟩)
          * q (ix3 b r ⟨(h : ℕ) * 256 + (g : ℕ) * 64 + d, by omega⟩)) * Ideal.ofBits FTy.f32 0x3E000000#32 := by
  rw [Read.val_main_v8_apply, Read.val_main_v7_apply, Read.val_main_cst_apply, Read.val_main_v6_apply, Read.val_main_v5_apply]
  refine congrArg₂ (fun x y : EReal => x * y) (Finset.sum_congr rfl fun d _ => ?_) rfl
  unfold Read.val_main_v2 Read.val_main_v0
  generalize Read.val_main_v1 (F := Ideal) k kc = K
  rw [show Read.lidx_main_v5 (Read.idx_main_v6 (ix5 b h g r j)) d = ix4 b j h d by funext a; fin_cases a <;> rfl,
    show Read.ridx_main_v5 (Read.idx_main_v6 (ix5 b h g r j)) d = ix5 b r h g d by funext a; fin_cases a <;> rfl]
  exact congrArg₂ (fun x y : EReal => x * y) (keys_split K b j h d) (queries_split q b r h g d)

theorem ref_at (b : Fin 8) (r : Fin 4096) (c : Fin 512) : Read.val_main_v23 (F := Ideal) q k v kc vc (ix3 b r c)
    = mean (fun j => (∑ d : Fin 64, Read.val_main_v1 (F := Ideal) k kc (ix3 b j ⟨(c : ℕ) / 256 * 64 + d, by omega⟩)
          * q (ix3 b r ⟨(c : ℕ) / 256 * 256 + (c : ℕ) / 64 % 4 * 64 + d, by omega⟩)) * Ideal.ofBits FTy.f32 0x3E000000#32)
        (fun j => Read.val_main_v3 (F := Ideal) v vc (ix3 b j ⟨(c : ℕ) / 256 * 64 + (c : ℕ) % 64, by omega⟩)) := by
  pointwise [Read.val_main_v23, Read.val_main_v22, Read.val_main_v21, Read.val_main_v20, Read.val_main_v4]
  simp only [weight_at, power_at, top_at, score_at]
  rfl

theorem keys_at (b : Fin 8) (j : Fin 4352) (d : Fin 128) :
    Read.val_main_v1 (F := Ideal) k kc (ix3 b j d)
      = if h : (j : ℕ) < 256 then kc (ix3 b ⟨j, h⟩ d) else k (ix3 b ⟨(j : ℕ) - 256, by omega⟩ d) := by
  pointwise [Read.val_main_v1]

theorem values_at (b : Fin 8) (j : Fin 4352) (d : Fin 128) :
    Read.val_main_v3 (F := Ideal) v vc (ix3 b j d)
      = if h : (j : ℕ) < 256 then vc (ix3 b ⟨j, h⟩ d) else v (ix3 b ⟨(j : ℕ) - 256, by omega⟩ d) := by
  pointwise [Read.val_main_v3]

end Cert.Gqa

end
-- ==== Proof.Gqa.Softmax.lean ====
module

public import proofs.«01_k».proof.Proof.Gqa.Attend
public import proofs.«01_k».proof.Proof.Gqa.Spec

@[expose] public section

set_option maxRecDepth 16384

noncomputable section

/-! # The two softmax means agree

On real scores, the powers of two of the scores over `log 2` are the exponentials of the scores, and dividing the weighted sum by
the sum of the weights is weighting with the divided weights. -/

namespace Cert.Gqa

open Idealize.ShloMosaic

/-- A function's fold by the maximum is its value where it is largest. -/
theorem fold_top (s : Fin 4352 → EReal) (i : Fin 4352) (h : ∀ j, s j ≤ s i) : Finset.univ.fold max ⊥ s = s i :=
  le_antisymm ((Finset.fold_max_le _).2 ⟨bot_le, fun j _ => h j⟩) ((Finset.le_fold_max _).2 (Or.inr ⟨i, Finset.mem_univ i, le_rfl⟩))

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

theorem log_two_pos : 0 < Real.log 2 := Real.log_pos (by norm_num)

theorem exp2_sub (a b : ℝ) : Ideal.exp2 (((a / Real.log 2 : ℝ) : EReal) - ((b / Real.log 2 : ℝ) : EReal)) = (Real.exp (a - b) : EReal) := by
  rw [← EReal.coe_sub, Ideal.exp2_coe]
  congr 1
  show (2 : ℝ) ^ (a / Real.log 2 - b / Real.log 2) = _
  rw [Real.rpow_def_of_pos (by norm_num)]
  congr 1
  have := log_two_pos.ne'
  field_simp

theorem exp_sub (a b : ℝ) : Ideal.exp ((a : EReal) - (b : EReal)) = (Real.exp (a - b) : EReal) := by
  rw [← EReal.coe_sub, Ideal.exp_coe]

/-- The mean in powers of two of the scores over `log 2` is the softmax mean of the scores. -/
theorem mean2_eq_mean (t : Fin 4352 → ℝ) (v : Fin 4352 → EReal) :
    mean2 (fun j => ((t j / Real.log 2 : ℝ) : EReal)) v (fun _ => 1) = mean (fun j => ((t j : ℝ) : EReal)) v := by
  obtain ⟨i, hi⟩ := Finite.exists_max t
  have hD : 0 < ∑ j, Real.exp (t j - t i) := Finset.sum_pos (fun j _ => Real.exp_pos _) ⟨i, Finset.mem_univ i⟩
  unfold mean2 mean
  rw [fold_top (fun j => ((t j / Real.log 2 : ℝ) : EReal)) i
      (fun j => EReal.coe_le_coe_iff.2 (div_le_div_of_nonneg_right (hi j) log_two_pos.le)),
    fold_top (fun j => ((t j : ℝ) : EReal)) i (fun j => EReal.coe_le_coe_iff.2 (hi j)), max_eq_right bot_le]
  simp only [exp2_sub, exp_sub, mul_one, ← coe_sum, Ideal.div_coe hD.ne']
  rw [sum_mul_coe _ _ _ (one_div_nonneg.2 hD.le)]
  refine Finset.sum_congr rfl fun j _ => ?_
  rw [mul_comm (Real.exp _ : EReal) (v j), mul_assoc]

end Cert.Gqa

end
-- ==== Proof.Gqa.Bridge.lean ====
module

public import proofs.«01_k».proof.Proof.Gen.KernelIdeal.Value
public import proofs.«01_k».proof.Proof.Gqa.Softmax

@[expose] public section

set_option maxRecDepth 16384

noncomputable section

/-! # The attention's output array is the reference's -/

namespace Cert.Gqa

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, _)

/-- The context's rows before the sequence's own. -/
def joined (x : FVec Ideal S8x4096x128 .f32) (y : FVec Ideal S8x256x128 .f32) : FVec Ideal S8x4352x128 .bf16 :=
  concatenate S8x4352x128 1 [⟨S8x256x128, truncf (F := Ideal) .bf16 y bitsLt_bf16_f32⟩, ⟨S8x4096x128, truncf (F := Ideal) .bf16 x bitsLt_bf16_f32⟩]
    concatenates_S8x256x128_S8x4096x128_S8x4352x128_d1

/-- The queries as the call takes them: the heads of the two key heads side by side, scaled. -/
def paired (x : FVec Ideal S8x4096x512 .f32) : FVec Ideal S8x4096x512 .bf16 :=
  truncf (F := Ideal) .bf16 (Host.divf (mulf (shapeCast S8x4096x512 (transpose S8x4096x4x2x64 [0, 1, 3, 2, 4]
      (shapeCast S8x4096x2x4x64 x shapeCasts_S8x4096x512_S8x4096x2x4x64) transposes_S8x4096x2x4x64_S8x4096x4x2x64_0_1_3_2_4)
      shapeCasts_S8x4096x4x2x64_S8x4096x512)
      (broadcastInDim S8x4096x512 ![] bcast_S_S8x4096x512 (constant S_ .f32 0x3E000000#32)))
    (broadcastInDim S8x4096x512 ![] bcast_S_S8x4096x512 (Host.log (constant S_ .f32 0x40000000#32)))) bitsLt_bf16_f32

theorem V_query (c : Dev nD) : V m c main_v8 = paired (m ((c : Thread nD τ).loc main_arg0)) := by
  unfold V; after_results; rfl

theorem V_keys (c : Dev nD) : V m c main_v15 = transpose S8x128x4352 [0, 2, 1]
    (joined (m ((c : Thread nD τ).loc main_arg1)) (m ((c : Thread nD τ).loc main_arg3))) transposes_S8x4352x128_S8x128x4352_0_2_1 := by
  unfold V; after_results; rfl

theorem V_values (c : Dev nD) : V m c main_v17 = concatenate S8x4352x256 2
    [⟨S8x4352x128, joined (m ((c : Thread nD τ).loc main_arg2)) (m ((c : Thread nD τ).loc main_arg4))⟩,
      ⟨S8x4352x128, broadcastInDim S8x4352x128 ![] bcast_S_S8x4352x128 (constant (F := Ideal) S_ .bf16 0x3F80#16)⟩]
    concatenates_S8x4352x128_S8x4352x128_S8x4352x256_d2 := by
  unfold V; after_results; rfl

theorem paired_at (x : FVec Ideal S8x4096x512 .f32) (b : Fin 8) (r : Fin 4096) (a : Fin 512) :
    paired x (ix3 b r a) = Ideal.div (x (ix3 b r ⟨(a : ℕ) / 64 % 2 * 256 + (a : ℕ) / 128 * 64 + (a : ℕ) % 64, by omega⟩)
      * Ideal.ofBits .f32 0x3E000000#32) (Ideal.log (Ideal.ofBits .f32 0x40000000#32)) := by
  pointwise [paired]

theorem joined_at (x : FVec Ideal S8x4096x128 .f32) (y : FVec Ideal S8x256x128 .f32) (b : Fin 8) (j : Fin 4352) (d : Fin 128) :
    joined x y (ix3 b j d) = if h : (j : ℕ) < 256 then y (ix3 b ⟨j, h⟩ d) else x (ix3 b ⟨(j : ℕ) - 256, by omega⟩ d) := by
  pointwise [joined]

theorem query_block (c : Dev nD) (t : Fin cfg0.N) (i a : Fin 512) (b : Fin 8) (r : Fin 4096)
    (hb : (b : ℕ) = t.val / 8) (hr : (r : ℕ) = t.val % 8 * 512 + i) :
    iblk (F := Ideal) m c 0 t (ix3 0 i a) = paired (m ((c : Thread nD τ).loc main_arg0)) (ix3 b r a) := by
  rw [← V_query]
  blk_ext [iblk, idx t]

theorem key_block (c : Dev nD) (t : Fin cfg0.N) (d : Fin 128) (j : Fin 4352) (b : Fin 8) (hb : (b : ℕ) = t.val / 8) :
    iblk (F := Ideal) m c 1 t (ix3 0 d j)
      = joined (m ((c : Thread nD τ).loc main_arg1)) (m ((c : Thread nD τ).loc main_arg3)) (ix3 b j d) := by
  have e : iblk (F := Ideal) m c 1 t (ix3 0 d j) = V m c main_v15 (ix3 b d j) := by
    blk_ext [iblk, idx t]
  rw [e, V_keys]
  pointwise

theorem value_block (c : Dev nD) (t : Fin cfg0.N) (d : Fin 128) (j : Fin 4352) (b : Fin 8) (hb : (b : ℕ) = t.val / 8) :
    iblk (F := Ideal) m c 2 t (ix3 0 j ⟨d, by omega⟩)
      = joined (m ((c : Thread nD τ).loc main_arg2)) (m ((c : Thread nD τ).loc main_arg4)) (ix3 b j d) := by
  have e : iblk (F := Ideal) m c 2 t (ix3 0 j ⟨d, by omega⟩) = V m c main_v17 (ix3 b j ⟨d, by omega⟩) := by
    blk_ext [iblk, idx t]
  rw [e, V_values]
  pointwise

theorem one_block (c : Dev nD) (t : Fin cfg0.N) (j : Fin 4352) : iblk (F := Ideal) m c 2 t (ix3 0 j 128) = (1 : EReal) := by
  have h : t.val / 8 < 8 := by have := t.isLt; have e : cfg0.N = 64 := N_0; omega
  have e : iblk (F := Ideal) m c 2 t (ix3 0 j 128) = V m c main_v17 (ix3 ⟨t.val / 8, h⟩ j 128) := by
    blk_ext [iblk, idx t]
  rw [e, V_values]
  pointwise

theorem eighth : Ideal.ofBits .f32 0x3E000000#32 = ((1 / 8 : ℝ) : EReal) := by
  simp [Ideal.ofBits, Ideal.ieee, -EReal.coe_mul]; norm_num

theorem log_two : Ideal.log (Ideal.ofBits .f32 0x40000000#32) = ((Real.log 2 : ℝ) : EReal) := by
  rw [show Ideal.ofBits .f32 0x40000000#32 = ((2 : ℝ) : EReal) by simp [Ideal.ofBits, Ideal.ieee, -EReal.coe_mul]; norm_num,
    Ideal.log_coe, if_neg (by norm_num)]

/-- The keys of a finite sequence and context are reals. -/
theorem joined_real (x : FVec Ideal S8x4096x128 .f32) (y : FVec Ideal S8x256x128 .f32) (hx : ∀ i, ∃ a : ℝ, x i = (a : EReal))
    (hy : ∀ i, ∃ a : ℝ, y i = (a : EReal)) (b : Fin 8) (j : Fin 4352) (d : Fin 128) :
    ∃ a : ℝ, joined x y (ix3 b j d) = (a : EReal) := by
  rw [joined_at]
  split
  · exact hy _
  · exact hx _

/-- Where a lane of the prepared queries stands in the queries. -/
theorem place (c : Fin 512) (d : Fin 64) :
    ((c : ℕ) / 64 % 4 * 128 + (c : ℕ) / 256 * 64 + d) / 64 % 2 * 256 + ((c : ℕ) / 64 % 4 * 128 + (c : ℕ) / 256 * 64 + d) / 128 * 64
      + ((c : ℕ) / 64 % 4 * 128 + (c : ℕ) / 256 * 64 + d) % 64 = (c : ℕ) / 256 * 256 + (c : ℕ) / 64 % 4 * 64 + d := by
  have hk : (c : ℕ) / 256 < 2 := by omega
  have hd := d.isLt
  generalize (c : ℕ) / 64 % 4 = g
  generalize (c : ℕ) / 256 = k at *
  have h1 : (g * 128 + k * 64 + (d : ℕ)) / 64 = 2 * g + k := by omega
  have h2 : (g * 128 + k * 64 + (d : ℕ)) / 128 = g := by omega
  have h3 : (g * 128 + k * 64 + (d : ℕ)) % 64 = d := by omega
  rw [h1, h2, h3]
  omega

/-- At an element: the body's mean over the prepared queries, keys and values is the reference's. -/
theorem core (q : FVec Ideal S8x4096x512 .f32) (k v : FVec Ideal S8x4096x128 .f32) (kc vc : FVec Ideal S8x256x128 .f32)
    (hq : ∀ i, ∃ a : ℝ, q i = (a : EReal)) (hk : ∀ i, ∃ a : ℝ, k i = (a : EReal)) (hkc : ∀ i, ∃ a : ℝ, kc i = (a : EReal))
    (b : Fin 8) (r : Fin 4096) (c : Fin 512) :
    mean2 (fun j => ∑ d : Fin 64, paired q (ix3 b r ⟨(c : ℕ) / 64 % 4 * 128 + (c : ℕ) / 256 * 64 + d, by omega⟩)
          * joined k kc (ix3 b j ⟨(c : ℕ) / 256 * 64 + d, by omega⟩))
        (fun j => joined v vc (ix3 b j ⟨(c : ℕ) / 256 * 64 + (c : ℕ) % 64, by omega⟩)) (fun _ => 1)
      = Cert.ReferenceIdeal.Read.val_main_v23 (F := Ideal) q k v kc vc (ix3 b r c) := by
  choose Q hQ using hq
  choose K hK using fun j d => joined_real k kc hk hkc b j d
  rw [ref_at, eighth]
  refine Eq.trans ?_ ((mean2_eq_mean (fun j => (∑ d : Fin 64, K j ⟨(c : ℕ) / 256 * 64 + d, by omega⟩
    * Q (ix3 b r ⟨(c : ℕ) / 256 * 256 + (c : ℕ) / 64 % 4 * 64 + d, by omega⟩)) * (1 / 8))
    (fun j => joined v vc (ix3 b j ⟨(c : ℕ) / 256 * 64 + (c : ℕ) % 64, by omega⟩))).trans ?_)
  · refine mean2_congr (fun j => ?_) (fun j => rfl) (fun j => rfl)
    · rw [Finset.sum_mul, Finset.sum_div, coe_sum]
      refine Finset.sum_congr rfl fun d _ => ?_
      have e : (⟨((c : ℕ) / 64 % 4 * 128 + (c : ℕ) / 256 * 64 + d) / 64 % 2 * 256 + ((c : ℕ) / 64 % 4 * 128 + (c : ℕ) / 256 * 64 + d) / 128 * 64
          + ((c : ℕ) / 64 % 4 * 128 + (c : ℕ) / 256 * 64 + d) % 64, by omega⟩ : Fin 512)
          = ⟨(c : ℕ) / 256 * 256 + (c : ℕ) / 64 % 4 * 64 + d, by omega⟩ := Fin.ext (place c d)
      rw [paired_at, hK, hQ, eighth, log_two, Ideal.div_coe log_two_pos.ne', ← EReal.coe_mul, ← EReal.coe_mul, ← EReal.coe_mul]
      simp only [e]
      congr 1
      ring
  · refine congrArg₂ mean (funext fun j => ?_) (funext fun j => by rw [joined_at, values_at])
    simp only [EReal.coe_mul, coe_sum]
    refine congrArg₂ (fun x y : EReal => x * y) (Finset.sum_congr rfl fun d _ => ?_) rfl
    rw [← hQ, ← hK, keys_at, joined_at]

theorem point (c : Dev nD) (hq : ∀ i, ∃ a : ℝ, m ((c : Thread nD τ).loc main_arg0) i = (a : EReal))
    (hk : ∀ i, ∃ a : ℝ, m ((c : Thread nD τ).loc main_arg1) i = (a : EReal))
    (hkc : ∀ i, ∃ a : ℝ, m ((c : Thread nD τ).loc main_arg3) i = (a : EReal)) (t : Fin cfg0.N) (i a : Fin 512) (b : Fin 8) (r : Fin 4096)
    (hb : (b : ℕ) = t.val / 8) (hr : (r : ℕ) = t.val % 8 * 512 + i) :
    out0_3 (F := Ideal) (iblk m c 0 t) (iblk m c 1 t) (iblk m c 2 t) (ix3 0 i a)
      = Cert.ReferenceIdeal.Read.val_main_v23 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix3 b r a) := by
  rw [out_at, ← core _ _ _ _ _ hq hk hkc b r a]
  exact mean2_congr (fun j => Finset.sum_congr rfl fun d _ => Ideal.mul_congr (query_block m c t i _ b r hb hr) (key_block m c t _ j b hb))
    (fun j => value_block m c t ⟨(a : ℕ) / 256 * 64 + (a : ℕ) % 64, by omega⟩ j b hb) (fun j => one_block m c t j)

theorem final (c : Dev nD) (hq : ∀ i, ∃ a : ℝ, m ((c : Thread nD τ).loc main_arg0) i = (a : EReal))
    (hk : ∀ i, ∃ a : ℝ, m ((c : Thread nD τ).loc main_arg1) i = (a : EReal))
    (hkc : ∀ i, ∃ a : ℝ, m ((c : Thread nD τ).loc main_arg3) i = (a : EReal)) :
    (dats (F := Ideal) m 0 c).arrAt 3 cfg0.N
      = Cert.ReferenceIdeal.Read.val_main_v23 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 3 _ (by decide +kernel) fun t _ y => ?_
  have h : t.val < 64 := lt_of_lt_of_eq t.isLt N_0
  blk_simp
  rw [after0_3]
  idx_vars y
  rw [show y0 = 0 from Subsingleton.elim _ _]
  refine (point m c hq hk hkc t y1 y2 ⟨t.val / 8, by omega⟩ ⟨t.val % 8 * 512 + y1, by omega⟩ rfl rfl).trans ?_
  blk_ext [idx t]

end Cert.Gqa

end
-- ==== Proof.Gqa.Claims.lean ====
/- The attention's claims: what the precondition says of the arguments, and the two programs' results, equal. -/
module

public import proofs.«01_k».proof.Defs
public import proofs.«01_k».proof.Proof.Gqa.Bridge
public import proofs.«01_k».proof.Proof.Gen.Pre_finite
public import proofs.«01_k».proof.Proof.Gen.ReferenceIdeal.Run
public import Idealize.ShloMosaic.Lib.Quiescent

@[expose] public section

noncomputable section

namespace Cert.Gqa

open Idealize.ShloMosaic Idealize.SL.Sem

/-- An extended real whose size is below infinity is a real. -/
theorem real_of_below (a : EReal) (h : Ideal.cmp .olt (max a (-a)) (Ideal.ofBits .f32 0x7F800000#32) = 1#1) : ∃ x : ℝ, a = (x : EReal) := by
  have hi : Ideal.ofBits .f32 0x7F800000#32 = (⊤ : EReal) := by simp [Ideal.ofBits, Ideal.ieee]
  rw [hi] at h
  induction a with
  | bot => simp [Ideal.cmp] at h
  | coe x => exact ⟨x, rfl⟩
  | top => simp [Ideal.cmp] at h

variable (m : (ℓ : Loc Cert.KernelIdeal.nD Cert.KernelIdeal.τ Cert.KernelIdeal.sig) → Buf (Elt Ideal) ℓ)

/-- Under the precondition the queries and the keys are reals. -/
theorem reals (h : Cert.Pre_KernelIdeal_finite m) (c : Dev Cert.KernelIdeal.nD) :
    (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg1) i = (a : EReal))
    ∧ (∀ i, ∃ a : ℝ, m ((c.tc : Thread Cert.KernelIdeal.nD Cert.KernelIdeal.τ).loc Cert.KernelIdeal.main_arg3) i = (a : EReal)) :=
  ⟨fun i => real_of_below _ (congrFun (h c).1 i), fun i => real_of_below _ (congrFun (h c).2.1 i),
    fun i => real_of_below _ (congrFun (h c).2.2 i)⟩

/-- The reference ends with its arguments unchanged; it has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs end with the reference's attention. -/
theorem algebraic : Cert.algebraic_KernelIdeal_ReferenceIdeal_pre_finite := by
  intro m ρ m' ρ' hpre agree
  refine ⟨fun c => Cert.ReferenceIdeal.Read.val_main_v23 (F := Ideal) (m (c.tc.loc Cert.KernelIdeal.main_arg0))
    (m (c.tc.loc Cert.KernelIdeal.main_arg1)) (m (c.tc.loc Cert.KernelIdeal.main_arg2)) (m (c.tc.loc Cert.KernelIdeal.main_arg3))
    (m (c.tc.loc Cert.KernelIdeal.main_arg4)), ?_, ?_⟩
  · refine (θ_run Cert.KernelIdeal.defs _ _).mono (fun _ h c => ⟨(h c).1.trans ?_, (h c).2⟩)
      (Cert.KernelIdeal.Value.run_blocks (F := Ideal) m ρ)
    obtain ⟨hq, hk, hkc⟩ := reals m hpre c
    exact final m c hq hk hkc
  · refine (θ_run Cert.ReferenceIdeal.defs _ _).mono (fun _ h c => ⟨(h c).1.trans ?_, (h c).2⟩)
      (Cert.ReferenceIdeal.Value.run (F := Ideal) m' ρ')
    obtain ⟨e0, e1, e2, e3, e4⟩ := agree c
    rw [Cert.ReferenceIdeal.Read.val_main_v23_eq, e0, e1, e2, e3, e4]

end Cert.Gqa

end
-- ==== Proof.ExpertsIdeal.Kit.lean ====
/- The experts' launch up to its one region: the arrays there, the tables, each window's block, and the frame from a run. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)
abbrev bodyAt0 (a : (pcfg0 (F := F)).Adm) (t : Fin (cfg0 a).N) : Prog (TpuEff nD τ sig (Elt F) Λ₀ .tc) PUnit :=
  cc0__moe_expert_kernel (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11))

variable (m : (ℓ : Loc nD τ sig) → Buf (Elt F) ℓ) (ρ : Dev nD → PrngReg)
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)
abbrev tbM0_0 : Memref sig .tc .smem S2368 .i32 := Memref.whole main_arg0
abbrev htbM0_0 : tbM0_0.IsWhole := Memref.isWhole_whole _
abbrev tbM0_1 : Memref sig .tc .smem S296 .i32 := Memref.whole main_arg1
abbrev htbM0_1 : tbM0_1.IsWhole := Memref.isWhole_whole _
abbrev tbM0_2 : Memref sig .tc .smem S1 .i32 := Memref.whole main_arg2
abbrev htbM0_2 : tbM0_2.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h
abbrev VO0_11 : View sig .tc .vmem S256x1024 .bf16 := (Memref.whole cc0_stg11_0 : Memref sig .tc .vmem S256x1024 .bf16).view
abbrev ms0_0 (hO : Ok m) (t : Fin (cfgM m hO).N) : Memref sig .tc .vmem S1x1024x3584 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x3584 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3584x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S32x1152 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S32x1152 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S32x1152 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S32x1152 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S32x1152 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S32x1152 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S32x1152 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S32x1152 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S256x1024 .bf16 := spec0_11.stage ((cfgM m hO).slots t 11)
abbrev hs0_11 (hO : Ok m) (t : Fin (cfgM m hO).N) : (ms0_11 m hO t).IsWhole := hstage0_11 (((cfgM m hO).slots t 11).cast nbuf0_11)

end Cert.ExpertsIdeal.Hand

end
-- ==== Proof.ExpertsIdeal.Run.lean ====
/- The body's run in its two cases: a step in use, and a step past the last. -/
module

public import proofs.«01_k».proof.Proof.ExpertsIdeal.Kit

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
/-- The word the body reads off the third table. -/
abbrev tableWord (c : Dev nD) (xt2 : TbBuf0 (F := F) c tbM0_2) : Elt F .i32 :=
  tbM0_2.view.readAt (Elt F) (Rect.unit (s := S1) ![0] S1.size inb_S1_S1_0).toLoadRect xt2 (Shape.Idx.first (numel1_S1.symm ▸ Nat.one_pos))

set_option maxHeartbeats 1000000 in
noncomputable def runA (c : Dev nD) (i : grid0.Coords) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S32x1152 .bf16) (harg7 : arg7.IsWhole) (arg8 : Memref sig .tc .vmem S32x1152 .bf16) (harg8 : arg8.IsWhole) (arg9 : Memref sig .tc .vmem S32x1152 .bf16) (harg9 : arg9.IsWhole) (arg10 : Memref sig .tc .vmem S32x1152 .bf16) (harg10 : arg10.IsWhole) (arg11 : Memref sig .tc .vmem S32x1152 .bf16) (harg11 : arg11.IsWhole) (arg12 : Memref sig .tc .vmem S32x1152 .bf16) (harg12 : arg12.IsWhole) (arg13 : Memref sig .tc .vmem S32x1152 .bf16) (harg13 : arg13.IsWhole) (arg14 : Memref sig .tc .vmem S32x1152 .bf16) (harg14 : arg14.IsWhole) (arg15 : Memref sig .tc .vmem S256x1024 .bf16) (harg15 : arg15.IsWhole)
    (x0 : Vec F S1x1024x3584 .bf16) (x1 : Vec F S1x1024x3584 .bf16) (x2 : Vec F S1x3584x1024 .bf16) (x3 : Vec F S32x1152 .bf16) (x4 : Vec F S32x1152 .bf16) (x5 : Vec F S32x1152 .bf16) (x6 : Vec F S32x1152 .bf16) (x7 : Vec F S32x1152 .bf16) (x8 : Vec F S32x1152 .bf16) (x9 : Vec F S32x1152 .bf16) (x10 : Vec F S32x1152 .bf16) (xt0 : TbBuf0 (F := F) c tbM0_0) (xt1 : TbBuf0 (F := F) c tbM0_1) (xt2 : TbBuf0 (F := F) c tbM0_2)
    (h1 : k0_cond1 i (tableWord c xt2) = 1#1) (h2 : ¬ k0_cond2 i (tableWord c xt2) = 1#1) :
    { L11 : List (View.Piece (Elt F) S256x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ (∃ d, owns (c : Thread nD τ) arg15 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ (∃ f, arg15.view.loc (c : Thread nD τ) ↦[arg15.view.set]{fullShare} arg15.view.writes (Elt F) f L11) ∗ tbPt0 c tbM0_0 xt0 ∗ tbPt0 c tbM0_1 xt1 ∗ tbPt0 c tbM0_2 xt2) -∗ K ⟨⟩))
          ⊢ wp frame (wpE (defs₀ (F := F)) Variants.none c none) E (cc0__moe_expert_kernel i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__moe_expert_kernel_eq_skeleton]; unfold cc0__moe_expert_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [H11]; · iexists _; iexact H11
    isplitl [HT0]; · iexact HT0
    isplitl [HT1]; · iexact HT1
    iexact HT2

set_option maxHeartbeats 1000000 in
noncomputable def runB (c : Dev nD) (i : grid0.Coords) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S32x1152 .bf16) (harg7 : arg7.IsWhole) (arg8 : Memref sig .tc .vmem S32x1152 .bf16) (harg8 : arg8.IsWhole) (arg9 : Memref sig .tc .vmem S32x1152 .bf16) (harg9 : arg9.IsWhole) (arg10 : Memref sig .tc .vmem S32x1152 .bf16) (harg10 : arg10.IsWhole) (arg11 : Memref sig .tc .vmem S32x1152 .bf16) (harg11 : arg11.IsWhole) (arg12 : Memref sig .tc .vmem S32x1152 .bf16) (harg12 : arg12.IsWhole) (arg13 : Memref sig .tc .vmem S32x1152 .bf16) (harg13 : arg13.IsWhole) (arg14 : Memref sig .tc .vmem S32x1152 .bf16) (harg14 : arg14.IsWhole) (arg15 : Memref sig .tc .vmem S256x1024 .bf16) (harg15 : arg15.IsWhole)
    (x0 : Vec F S1x1024x3584 .bf16) (x1 : Vec F S1x1024x3584 .bf16) (x2 : Vec F S1x3584x1024 .bf16) (x3 : Vec F S32x1152 .bf16) (x4 : Vec F S32x1152 .bf16) (x5 : Vec F S32x1152 .bf16) (x6 : Vec F S32x1152 .bf16) (x7 : Vec F S32x1152 .bf16) (x8 : Vec F S32x1152 .bf16) (x9 : Vec F S32x1152 .bf16) (x10 : Vec F S32x1152 .bf16) (xt0 : TbBuf0 (F := F) c tbM0_0) (xt1 : TbBuf0 (F := F) c tbM0_1) (xt2 : TbBuf0 (F := F) c tbM0_2)
    (h1 : ¬ k0_cond1 i (tableWord c xt2) = 1#1) (h2 : k0_cond2 i (tableWord c xt2) = 1#1) :
    { L11 : List (View.Piece (Elt F) S256x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ (∃ d, owns (c : Thread nD τ) arg15 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ (∃ f, arg15.view.loc (c : Thread nD τ) ↦[arg15.view.set]{fullShare} arg15.view.writes (Elt F) f L11) ∗ tbPt0 c tbM0_0 xt0 ∗ tbPt0 c tbM0_1 xt1 ∗ tbPt0 c tbM0_2 xt2) -∗ K ⟨⟩))
          ⊢ wp frame (wpE (defs₀ (F := F)) Variants.none c none) E (cc0__moe_expert_kernel i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__moe_expert_kernel_eq_skeleton]; unfold cc0__moe_expert_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [H11]; · iexists _; iexact H11
    isplitl [HT0]; · iexact HT0
    isplitl [HT1]; · iexact HT1
    iexact HT2

end Cert.ExpertsIdeal.Hand

end
-- ==== Proof.ExpertsIdeal.Body.lean ====
/- What each step leaves, and the body at every point. -/
module

public import proofs.«01_k».proof.Proof.ExpertsIdeal.Run
public import Idealize.ShloMosaic.Lib.Claim

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The two branches of the body are complementary: a step is in use or past the last. -/
theorem cond2_iff (i : grid0.Coords) (v : BitVec 32) : k0_cond2 i v = 1#1 ↔ ¬ k0_cond1 i v = 1#1 := by
  have e : ∀ b : Bool, Scalar.cmpi .ne (Scalar.extui (BitVec.ofBool b) : BitVec 32) 0#32 = 1#1 ↔ b = true := by
    intro b; cases b <;> decide
  show Scalar.cmpi .ne (Scalar.extui (BitVec.ofBool (decide (v.toInt ≤ (BitVec.ofNat 32 (i 0).val).toInt))) : BitVec 32) 0#32 = 1#1
    ↔ ¬ Scalar.cmpi .ne (Scalar.extui (BitVec.ofBool (decide ((BitVec.ofNat 32 (i 0).val).toInt < v.toInt))) : BitVec 32) 0#32 = 1#1
  rw [e, e, decide_eq_true_iff, decide_eq_true_iff, Int.not_lt]

/-- Whether the step of point `t` is in use. -/
abbrev InUse (c : Dev nD) (i : grid0.Coords) : Prop := k0_cond1 i (tableWord (F := F) c (tbl m 2)) = 1#1

theorem coverA (c : Dev nD) (i : grid0.Coords) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S32x1152 .bf16) (harg7 : arg7.IsWhole) (arg8 : Memref sig .tc .vmem S32x1152 .bf16) (harg8 : arg8.IsWhole) (arg9 : Memref sig .tc .vmem S32x1152 .bf16) (harg9 : arg9.IsWhole) (arg10 : Memref sig .tc .vmem S32x1152 .bf16) (harg10 : arg10.IsWhole) (arg11 : Memref sig .tc .vmem S32x1152 .bf16) (harg11 : arg11.IsWhole) (arg12 : Memref sig .tc .vmem S32x1152 .bf16) (harg12 : arg12.IsWhole) (arg13 : Memref sig .tc .vmem S32x1152 .bf16) (harg13 : arg13.IsWhole) (arg14 : Memref sig .tc .vmem S32x1152 .bf16) (harg14 : arg14.IsWhole) (arg15 : Memref sig .tc .vmem S256x1024 .bf16) (harg15 : arg15.IsWhole)
    (x0 : Vec F S1x1024x3584 .bf16) (x1 : Vec F S1x1024x3584 .bf16) (x2 : Vec F S1x3584x1024 .bf16) (x3 : Vec F S32x1152 .bf16) (x4 : Vec F S32x1152 .bf16) (x5 : Vec F S32x1152 .bf16) (x6 : Vec F S32x1152 .bf16) (x7 : Vec F S32x1152 .bf16) (x8 : Vec F S32x1152 .bf16) (x9 : Vec F S32x1152 .bf16) (x10 : Vec F S32x1152 .bf16) (xt0 : TbBuf0 (F := F) c tbM0_0) (xt1 : TbBuf0 (F := F) c tbM0_1) (xt2 : TbBuf0 (F := F) c tbM0_2) (h1 : k0_cond1 i (tableWord c xt2) = 1#1) (h2 : ¬ k0_cond2 i (tableWord c xt2) = 1#1) (y : S256x1024.Idx) :
    ∃ pc ∈ (runA c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2).1, y ∈ pc.1.set :=
  View.cover_of_tiledL (runA c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2).1 S256x1024.size (by sl_kernel_rfl) y
theorem coverB (c : Dev nD) (i : grid0.Coords) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S32x1152 .bf16) (harg7 : arg7.IsWhole) (arg8 : Memref sig .tc .vmem S32x1152 .bf16) (harg8 : arg8.IsWhole) (arg9 : Memref sig .tc .vmem S32x1152 .bf16) (harg9 : arg9.IsWhole) (arg10 : Memref sig .tc .vmem S32x1152 .bf16) (harg10 : arg10.IsWhole) (arg11 : Memref sig .tc .vmem S32x1152 .bf16) (harg11 : arg11.IsWhole) (arg12 : Memref sig .tc .vmem S32x1152 .bf16) (harg12 : arg12.IsWhole) (arg13 : Memref sig .tc .vmem S32x1152 .bf16) (harg13 : arg13.IsWhole) (arg14 : Memref sig .tc .vmem S32x1152 .bf16) (harg14 : arg14.IsWhole) (arg15 : Memref sig .tc .vmem S256x1024 .bf16) (harg15 : arg15.IsWhole)
    (x0 : Vec F S1x1024x3584 .bf16) (x1 : Vec F S1x1024x3584 .bf16) (x2 : Vec F S1x3584x1024 .bf16) (x3 : Vec F S32x1152 .bf16) (x4 : Vec F S32x1152 .bf16) (x5 : Vec F S32x1152 .bf16) (x6 : Vec F S32x1152 .bf16) (x7 : Vec F S32x1152 .bf16) (x8 : Vec F S32x1152 .bf16) (x9 : Vec F S32x1152 .bf16) (x10 : Vec F S32x1152 .bf16) (xt0 : TbBuf0 (F := F) c tbM0_0) (xt1 : TbBuf0 (F := F) c tbM0_1) (xt2 : TbBuf0 (F := F) c tbM0_2) (h1 : ¬ k0_cond1 i (tableWord c xt2) = 1#1) (h2 : k0_cond2 i (tableWord c xt2) = 1#1) (y : S256x1024.Idx) :
    ∃ pc ∈ (runB c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2).1, y ∈ pc.1.set :=
  View.cover_of_tiledL (runB c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2).1 S256x1024.size (by sl_kernel_rfl) y

def outA (c : Dev nD) (i : grid0.Coords) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S32x1152 .bf16) (harg7 : arg7.IsWhole) (arg8 : Memref sig .tc .vmem S32x1152 .bf16) (harg8 : arg8.IsWhole) (arg9 : Memref sig .tc .vmem S32x1152 .bf16) (harg9 : arg9.IsWhole) (arg10 : Memref sig .tc .vmem S32x1152 .bf16) (harg10 : arg10.IsWhole) (arg11 : Memref sig .tc .vmem S32x1152 .bf16) (harg11 : arg11.IsWhole) (arg12 : Memref sig .tc .vmem S32x1152 .bf16) (harg12 : arg12.IsWhole) (arg13 : Memref sig .tc .vmem S32x1152 .bf16) (harg13 : arg13.IsWhole) (arg14 : Memref sig .tc .vmem S32x1152 .bf16) (harg14 : arg14.IsWhole) (arg15 : Memref sig .tc .vmem S256x1024 .bf16) (harg15 : arg15.IsWhole)
    (x0 : Vec F S1x1024x3584 .bf16) (x1 : Vec F S1x1024x3584 .bf16) (x2 : Vec F S1x3584x1024 .bf16) (x3 : Vec F S32x1152 .bf16) (x4 : Vec F S32x1152 .bf16) (x5 : Vec F S32x1152 .bf16) (x6 : Vec F S32x1152 .bf16) (x7 : Vec F S32x1152 .bf16) (x8 : Vec F S32x1152 .bf16) (x9 : Vec F S32x1152 .bf16) (x10 : Vec F S32x1152 .bf16) (xt0 : TbBuf0 (F := F) c tbM0_0) (xt1 : TbBuf0 (F := F) c tbM0_1) (xt2 : TbBuf0 (F := F) c tbM0_2) (h1 : k0_cond1 i (tableWord c xt2) = 1#1) (h2 : ¬ k0_cond2 i (tableWord c xt2) = 1#1) : Vec F S256x1024 .bf16 :=
  VO0_11.read (Elt F) (VO0_11.writes (Elt F) VO0_11.junk (runA c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2).1)
def outB (c : Dev nD) (i : grid0.Coords) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S32x1152 .bf16) (harg7 : arg7.IsWhole) (arg8 : Memref sig .tc .vmem S32x1152 .bf16) (harg8 : arg8.IsWhole) (arg9 : Memref sig .tc .vmem S32x1152 .bf16) (harg9 : arg9.IsWhole) (arg10 : Memref sig .tc .vmem S32x1152 .bf16) (harg10 : arg10.IsWhole) (arg11 : Memref sig .tc .vmem S32x1152 .bf16) (harg11 : arg11.IsWhole) (arg12 : Memref sig .tc .vmem S32x1152 .bf16) (harg12 : arg12.IsWhole) (arg13 : Memref sig .tc .vmem S32x1152 .bf16) (harg13 : arg13.IsWhole) (arg14 : Memref sig .tc .vmem S32x1152 .bf16) (harg14 : arg14.IsWhole) (arg15 : Memref sig .tc .vmem S256x1024 .bf16) (harg15 : arg15.IsWhole)
    (x0 : Vec F S1x1024x3584 .bf16) (x1 : Vec F S1x1024x3584 .bf16) (x2 : Vec F S1x3584x1024 .bf16) (x3 : Vec F S32x1152 .bf16) (x4 : Vec F S32x1152 .bf16) (x5 : Vec F S32x1152 .bf16) (x6 : Vec F S32x1152 .bf16) (x7 : Vec F S32x1152 .bf16) (x8 : Vec F S32x1152 .bf16) (x9 : Vec F S32x1152 .bf16) (x10 : Vec F S32x1152 .bf16) (xt0 : TbBuf0 (F := F) c tbM0_0) (xt1 : TbBuf0 (F := F) c tbM0_1) (xt2 : TbBuf0 (F := F) c tbM0_2) (h1 : ¬ k0_cond1 i (tableWord c xt2) = 1#1) (h2 : k0_cond2 i (tableWord c xt2) = 1#1) : Vec F S256x1024 .bf16 :=
  VO0_11.read (Elt F) (VO0_11.writes (Elt F) VO0_11.junk (runB c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2).1)

/-- What point `t` leaves in the output's staging buffer when its step is in use, and when it is not. -/
def useAt (hO : Ok m) (c : Dev nD) (t : Fin (cfgM m hO).N) (h : InUse m c (grid0.coords t)) : Vec F S256x1024 .bf16 :=
  outA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) h (fun e => (cond2_iff _ _).mp e h)
def idleAt (hO : Ok m) (c : Dev nD) (t : Fin (cfgM m hO).N) (h : ¬ InUse m c (grid0.coords t)) : Vec F S256x1024 .bf16 :=
  outB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) h ((cond2_iff _ _).mpr h)
open Classical in
def outsAt0 (hO : Ok m) (c : Dev nD) (t : Fin (cfgM m hO).N) : Vec F S256x1024 .bf16 :=
  if h : InUse m c (grid0.coords t) then useAt m hO c t h else idleAt m hO c t h

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => (outsAt0 m hO c t)
  Φ _ := iprop(Pipeline.ΦA spec0 c ∗ Pipeline.ΦT pre0 (tbl m) c)
  q w := Pipeline.shareOf spec0 w
  owed _ := 0
theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = (outsAt0 m hO c t) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

set_option maxHeartbeats 1200000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11]
  rw [show (dats m hO 0 c).Φ t.castSucc = iprop(Pipeline.ΦA spec0 c ∗ Pipeline.ΦT pre0 (tbl m) c) from rfl, PhiT0_eq]
  unfold outsAt0
  by_cases h : InUse m c (grid0.coords t)
  · rw [dif_pos h]; unfold useAt outA
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) h (fun e => (cond2_iff _ _).mp e h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HT0]; · iexact HT0
    isplitl [HT1]; · iexact HT1
    isplitl [HT2]; · iexact HT2
    iintro ⟨H0, H1, H2, H3, H4, H5, H6, H7, H8, H9, H10, ⟨%e11, H11⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro; exact View.read_writes_of_cover _ _ _ _ _ (coverA c _ _ _ _ _ _ _ _ _ _ _ _ _ _ _ _ _ _ _ _ _ _ _ _ _ _ _ _ _ _ _ _ _ _ _ _ _ _ _ _ _)
  · rw [dif_neg h]; unfold idleAt outB
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) h ((cond2_iff _ _).mpr h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HT0]; · iexact HT0
    isplitl [HT1]; · iexact HT1
    isplitl [HT2]; · iexact HT2
    iintro ⟨H0, H1, H2, H3, H4, H5, H6, H7, H8, H9, H10, ⟨%e11, H11⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro; exact View.read_writes_of_cover _ _ _ _ _ (coverB c _ _ _ _ _ _ _ _ _ _ _ _ _ _ _ _ _ _ _ _ _ _ _ _ _ _ _ _ _ _ _ _ _ _ _ _ _ _ _ _ _)

end Cert.ExpertsIdeal.Hand

end
-- ==== Proof.ExpertsIdeal.Frame.lean ====
/- The launch: it runs to the end and changes no argument. -/
module

public import proofs.«01_k».proof.Proof.ExpertsIdeal.Body

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]
/-- A window live at a point, or flushed there, ends with what the body left. -/
theorem after_leaves {cfg : Pipeline.Cfg sig Λ₀} {c : Dev nD} (dat : Dat τ (Elt F) Unit ℕ (UR sig nD τ) ℕ cfg c) (w : Fin cfg.W) (t : Fin cfg.N)
    (h : cfg.idle w (cfg.grid.coords t) = false ∨ (cfg.win w).flush t = true) :
    owns c ((cfg.win w).stage (cfg.slots t w)) fullShare (dat.after w t) ⊢ dat.leavesExact w t := by
  unfold Dat.leavesExact
  rcases h with h | h
  · rw [h]
  · rw [h]; cases cfg.idle w (cfg.grid.coords t) <;> exact .rfl

/-- Every window is live at every point, or flushed there. -/
theorem live_or_flushed (hO : Ok m) (t : Fin (cfgM m hO).N) :
    ∀ w : Fin 12, (cfgM m hO).idle w ((cfgM m hO).grid.coords t) = false ∨ ((cfgM m hO).win w).flush t = true
  | 0 => .inl rfl | 1 => .inl rfl | 2 => .inl rfl | 3 => .inl rfl | 4 => .inl rfl | 5 => .inl rfl | 6 => .inl rfl | 7 => .inl rfl
  | 8 => .inl rfl | 9 => .inl rfl | 10 => .inl rfl | 11 => .inr (flush0_11 (adm m hO) t)

theorem body_post (hO : Ok m) (c : Dev nD) (t : Fin (cfgM m hO).N) :
    bodyPost m hO c t ⊢ iprop((dats m hO 0 c).Φ t.succ ∗ (dats m hO 0 c).owesAt () t.succ
      ∗ bigSep Finset.univ fun w : Fin (cfgM m hO).W => (dats m hO 0 c).leavesExact w t) := by
  have e : ∀ w : Fin 12, owns (c : Thread nD τ) (((cfgM m hO).win w).stage ((cfgM m hO).slots t w)) fullShare ((dats m hO 0 c).after w t)
      ⊢ (dats m hO 0 c).leavesExact w t := fun w => after_leaves (dats m hO 0 c) w t (live_or_flushed m hO t w)
  refine .trans ?_ (sep_mono .rfl (sep_mono .rfl (bigSep_mono fun w _ => e w)))
  rw [bigSep_W0]
  unfold bodyPost
  exact .rfl

set_option maxHeartbeats 1600000 in
theorem body_obligation (hO : Ok m) (c : Dev nD) : BodyObligation (dats (F := F) m hO 0 c) (defs₀ (F := F)) Variants.none () Set.univ := fun t => by
  rw [bigSep_W0, defs₀_row m hO]
  refine triple_restated (sound_body m hO c t) rfl .rfl fun _ => ?_
  exact body_post m hO c t

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)
/-- The launch runs to the end and changes no argument. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.ExpertsIdeal.Hand

end
-- ==== Proof.ExpertsIdeal.Ok.lean ====
/- The experts' side condition: with every piece named below 2304 and every expert below 8, each block named lies in its array. -/
module

public import proofs.«01_k».proof.Proof.ExpertsIdeal.Frame
public import proofs.«01_k».proof.Proof.Gen.Pre_in_range
public import proofs.«01_k».proof.Defs
public import Idealize.ShloMosaic.Lib.StableHlo.Predicate

@[expose] public section

namespace Cert.ExpertsIdeal.Hand

open Cert.ExpertsIdeal Cert.ExpertsIdeal.Gen
open Idealize.ShloMosaic Idealize.ShloMosaic.TcCoe Idealize.ShloMosaic.WordCmp

variable {F : FTy → Type} [FloatOps F]

set_option maxRecDepth 65536 in
/-- A block of an expert's weights, at an expert below 8: inside the array, whole words. -/
theorem gate_block {f : Fin 3 → Nat} {n : Nat} (hf : f = ![n, 0, 0]) (hn : n < 8) :
    ∃ h : (∀ a, (f a + 1) * S1x1024x3584.size a ≤ S8x1024x3584.size a),
      EltTy.bits .bf16 = 32 ∨ (Rect.block (s := S8x1024x3584) S1x1024x3584.size f h).WholeWords (EltTy.packing .bf16) := by
  subst hf
  refine ⟨fun a => ?_, .inr (.inr ⟨by decide, rfl, rfl, rfl⟩)⟩
  match a with
  | 0 => show (n + 1) * 1 ≤ 8; omega
  | 1 => show (0 + 1) * 1024 ≤ 1024; omega
  | 2 => show (0 + 1) * 3584 ≤ 3584; omega

set_option maxRecDepth 65536 in
theorem down_block {f : Fin 3 → Nat} {n : Nat} (hf : f = ![n, 0, 0]) (hn : n < 8) :
    ∃ h : (∀ a, (f a + 1) * S1x3584x1024.size a ≤ S8x3584x1024.size a),
      EltTy.bits .bf16 = 32 ∨ (Rect.block (s := S8x3584x1024) S1x3584x1024.size f h).WholeWords (EltTy.packing .bf16) := by
  subst hf
  refine ⟨fun a => ?_, .inr (.inr ⟨by decide, rfl, rfl, rfl⟩)⟩
  match a with
  | 0 => show (n + 1) * 1 ≤ 8; omega
  | 1 => exact (by decide +kernel : (0 + 1) * 3584 ≤ 3584)
  | 2 => exact (by decide +kernel : (0 + 1) * 1024 ≤ 1024)

/-- A piece of 32 rows, at a piece below 2304. -/
theorem piece_block {f : Fin 2 → Nat} {n : Nat} (hf : f = ![n, 0]) (hn : n < 2304) :
    ∃ h : (∀ a, (f a + 1) * S32x1152.size a ≤ S73728x1152.size a),
      EltTy.bits .bf16 = 32 ∨ (Rect.block (s := S73728x1152) S32x1152.size f h).WholeWords (EltTy.packing .bf16) := by
  subst hf
  refine ⟨fun a => ?_, .inr (.inl (.inr ⟨by decide, rfl, .inl ⟨⟨n * 16, ?_⟩, ⟨16, rfl⟩⟩⟩))⟩
  · match a with
    | 0 => show (n + 1) * 32 ≤ 73728; omega
    | 1 => show (0 + 1) * 1152 ≤ 1152; omega
  · show n * 32 = 2 * (n * 16); omega

theorem ok_of (pf : pre0.Contents (Elt F)) (h0 : ∀ x : S2368.Idx, BitVec.toNat (pf 0 x) < 2304) (h1 : ∀ x : S296.Idx, BitVec.toNat (pf 1 x) < 8) : ok0 pf :=
  ⟨fun i => gate_block rfl (h1 _), fun i => gate_block rfl (h1 _), fun i => down_block rfl (h1 _),
    fun i => piece_block rfl (h0 _), fun i => piece_block rfl (h0 _), fun i => piece_block rfl (h0 _), fun i => piece_block rfl (h0 _),
    fun i => piece_block rfl (h0 _), fun i => piece_block rfl (h0 _), fun i => piece_block rfl (h0 _), fun i => piece_block rfl (h0 _)⟩

/-- A word between zero and a bound, read signed, is below it as a natural. -/
theorem word_lt {n : Nat} (hn : n < 2 ^ 31) {v : BitVec 32} (h : IntOp.andi (IntOp.cmpi .sge v 0#32) (IntOp.cmpi .slt v (BitVec.ofNat 32 n)) = 1#1) : v.toNat < n := by
  rw [cmpi_sge_eq, cmpi_slt_eq, andi_ofBool, ofBool_eq_one_iff, Bool.and_eq_true, decide_eq_true_iff, decide_eq_true_iff, toInt_ofNat_of_lt (w := 32) (a := n) hn, toInt_ofNat_of_lt (w := 32) (a := 0) (by decide)] at h
  obtain ⟨a, b⟩ := h
  rw [BitVec.toInt_eq_toNat_cond] at a b
  have : v.toNat < 2 ^ 32 := v.isLt
  simp at a
  split at b <;> split at a <;> omega

theorem in_range_pieces (m : (ℓ : Loc nD τ sig) → Buf (Elt Ideal) ℓ) (h : Cert.Pre_ExpertsIdeal m) (c : Dev nD) (x : S2368.Idx) :
    BitVec.toNat (m ((c : Thread nD τ).loc main_arg0) x) < 2304 := by
  have e := congrFun (h c).1 x
  simp only [Pre_in_range.fn, cmpi, andi, constantI, broadcastInDim] at e
  exact word_lt (by decide) e

theorem in_range_experts (m : (ℓ : Loc nD τ sig) → Buf (Elt Ideal) ℓ) (h : Cert.Pre_ExpertsIdeal m) (c : Dev nD) (x : S296.Idx) :
    BitVec.toNat (m ((c : Thread nD τ).loc main_arg1) x) < 8 := by
  have e := congrFun (h c).2 x
  simp only [Pre_in_range.fn, cmpi, andi, constantI, broadcastInDim] at e
  exact word_lt (by decide) e

theorem ok_of_pre (m : (ℓ : Loc nD τ sig) → Buf (Elt Ideal) ℓ) (h : Cert.Pre_ExpertsIdeal m) : Ok m := by
  refine ok_of (tbl m) (fun x => ?_) (fun x => ?_)
  · rw [show tbl m 0 = m (((0 : Dev nD) : Thread nD τ).loc main_arg0) from V_main_arg0 m 0]
    exact in_range_pieces m h 0 x
  · rw [show tbl m 1 = m (((0 : Dev nD) : Thread nD τ).loc main_arg1) from V_main_arg1 m 0]
    exact in_range_experts m h 0 x

end Cert.ExpertsIdeal.Hand

end
-- ==== Proof.Moe.Step.lean ====
/- What the body stores, in its two branches. -/
module

public import proofs.«01_k».proof.Proof.ExpertsIdeal.Frame
public import Idealize.ShloMosaic.Lib.Pipeline.ValueKit

@[expose] public section

set_option maxRecDepth 16384

noncomputable section

namespace Cert.Moe

open Idealize.ShloMosaic Idealize.ShloMosaic.TcCoe Idealize.SL.Sem
open Cert.ExpertsIdeal Cert.ExpertsIdeal.Gen Cert.ExpertsIdeal.Hand

variable {F : FTy → Type} [FloatOps F]

/-- The two halves of the hidden columns, and of the hidden rows. -/
def colsLo (x : Vec F S1x1024x3584 .bf16) : Vec F S1x1024x1792 .bf16 :=
  View.ld (Val := Elt F) (e' := EltTy.bf16) x (Rect.unit (s := S1x1024x3584) ![0, 0, 0] S1x1024x1792.size inb_S1x1024x3584_S1x1024x1792_0_0_0)
def colsHi (x : Vec F S1x1024x3584 .bf16) : Vec F S1x1024x1792 .bf16 :=
  View.ld (Val := Elt F) (e' := EltTy.bf16) x (Rect.unit (s := S1x1024x3584) ![0, 0, 1792] S1x1024x1792.size inb_S1x1024x3584_S1x1024x1792_0_0_1792)
def rowsLo (x : Vec F S1x3584x1024 .bf16) : Vec F S1x1792x1024 .bf16 :=
  View.ld (Val := Elt F) (e' := EltTy.bf16) x (Rect.unit (s := S1x3584x1024) ![0, 0, 0] S1x1792x1024.size inb_S1x3584x1024_S1x1792x1024_0_0_0)
def rowsHi (x : Vec F S1x3584x1024 .bf16) : Vec F S1x1792x1024 .bf16 :=
  View.ld (Val := Elt F) (e' := EltTy.bf16) x (Rect.unit (s := S1x3584x1024) ![0, 1792, 0] S1x1792x1024.size inb_S1x3584x1024_S1x1792x1024_0_1792_0)

/-- What a step in use stores, of its blocks. -/
def stored (x0 x1 : Vec F S1x1024x3584 .bf16) (x2 : Vec F S1x3584x1024 .bf16) (x3 x4 x5 x6 x7 x8 x9 x10 : Vec F S32x1152 .bf16) : Vec F S256x1024 .bf16 :=
  k0_pay1 (k0_pay4 x3 x4 x5 x6 x7 x8 x9 x10) (k0_pay5 x3 x4 x5 x6 x7 x8 x9 x10) k0_pay6
    (k0_pay7 x3 x4 x5 x6 x7 x8 x9 x10 (colsLo x0) (colsLo x1)) (rowsLo x2) (colsHi x0) (colsHi x1) (rowsHi x2)

theorem outA_eq (c : Dev nD) (i : grid0.Coords) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S32x1152 .bf16) (harg7 : arg7.IsWhole) (arg8 : Memref sig .tc .vmem S32x1152 .bf16) (harg8 : arg8.IsWhole) (arg9 : Memref sig .tc .vmem S32x1152 .bf16) (harg9 : arg9.IsWhole) (arg10 : Memref sig .tc .vmem S32x1152 .bf16) (harg10 : arg10.IsWhole) (arg11 : Memref sig .tc .vmem S32x1152 .bf16) (harg11 : arg11.IsWhole) (arg12 : Memref sig .tc .vmem S32x1152 .bf16) (harg12 : arg12.IsWhole) (arg13 : Memref sig .tc .vmem S32x1152 .bf16) (harg13 : arg13.IsWhole) (arg14 : Memref sig .tc .vmem S32x1152 .bf16) (harg14 : arg14.IsWhole) (arg15 : Memref sig .tc .vmem S256x1024 .bf16) (harg15 : arg15.IsWhole)
    (x0 : Vec F S1x1024x3584 .bf16) (x1 : Vec F S1x1024x3584 .bf16) (x2 : Vec F S1x3584x1024 .bf16) (x3 : Vec F S32x1152 .bf16) (x4 : Vec F S32x1152 .bf16) (x5 : Vec F S32x1152 .bf16) (x6 : Vec F S32x1152 .bf16) (x7 : Vec F S32x1152 .bf16) (x8 : Vec F S32x1152 .bf16) (x9 : Vec F S32x1152 .bf16) (x10 : Vec F S32x1152 .bf16) (xt0 : TbBuf0 (F := F) c tbM0_0) (xt1 : TbBuf0 (F := F) c tbM0_1) (xt2 : TbBuf0 (F := F) c tbM0_2) (h1 : k0_cond1 i (tableWord c xt2) = 1#1) (h2 : ¬ k0_cond2 i (tableWord c xt2) = 1#1) :
    outA c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2 = stored x0 x1 x2 x3 x4 x5 x6 x7 x8 x9 x10 := by
  unfold outA
  rw [View.read_writes_eq_canon _ _ _ (coverA c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2)]
  refine (View.canon_cons_unit_lit _ _ [] (by decide)).trans ?_
  unfold runA.sl.r_1 runA.sl.r_2 runA.sl.r_3
  simp only [View.readAt_eq_ld, harg4.read_unread, harg5.read_unread, harg6.read_unread, harg7.read_unread, harg8.read_unread, harg9.read_unread,
    harg10.read_unread, harg11.read_unread, harg12.read_unread, harg13.read_unread, harg14.read_unread]
  simp (disch := decide) only [View.ld_unit_lit']
  rfl

theorem outB_eq (c : Dev nD) (i : grid0.Coords) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S32x1152 .bf16) (harg7 : arg7.IsWhole) (arg8 : Memref sig .tc .vmem S32x1152 .bf16) (harg8 : arg8.IsWhole) (arg9 : Memref sig .tc .vmem S32x1152 .bf16) (harg9 : arg9.IsWhole) (arg10 : Memref sig .tc .vmem S32x1152 .bf16) (harg10 : arg10.IsWhole) (arg11 : Memref sig .tc .vmem S32x1152 .bf16) (harg11 : arg11.IsWhole) (arg12 : Memref sig .tc .vmem S32x1152 .bf16) (harg12 : arg12.IsWhole) (arg13 : Memref sig .tc .vmem S32x1152 .bf16) (harg13 : arg13.IsWhole) (arg14 : Memref sig .tc .vmem S32x1152 .bf16) (harg14 : arg14.IsWhole) (arg15 : Memref sig .tc .vmem S256x1024 .bf16) (harg15 : arg15.IsWhole)
    (x0 : Vec F S1x1024x3584 .bf16) (x1 : Vec F S1x1024x3584 .bf16) (x2 : Vec F S1x3584x1024 .bf16) (x3 : Vec F S32x1152 .bf16) (x4 : Vec F S32x1152 .bf16) (x5 : Vec F S32x1152 .bf16) (x6 : Vec F S32x1152 .bf16) (x7 : Vec F S32x1152 .bf16) (x8 : Vec F S32x1152 .bf16) (x9 : Vec F S32x1152 .bf16) (x10 : Vec F S32x1152 .bf16) (xt0 : TbBuf0 (F := F) c tbM0_0) (xt1 : TbBuf0 (F := F) c tbM0_1) (xt2 : TbBuf0 (F := F) c tbM0_2) (h1 : ¬ k0_cond1 i (tableWord c xt2) = 1#1) (h2 : k0_cond2 i (tableWord c xt2) = 1#1) :
    outB c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2 = k0_pay2 := by
  unfold outB
  rw [View.read_writes_eq_canon _ _ _ (coverB c i arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 xt1 xt2 h1 h2)]
  exact View.canon_cons_unit_lit _ _ [] (by decide)

theorem useAt_eq (m : (ℓ : Loc nD τ sig) → Buf (Elt F) ℓ) (hO : Ok m) (c : Dev nD) (t : Fin (cfgM m hO).N) (h : InUse m c (grid0.coords t)) :
    useAt m hO c t h = stored (iblk m hO c 0 t) (iblk m hO c 1 t) (iblk m hO c 2 t) (iblk m hO c 3 t) (iblk m hO c 4 t) (iblk m hO c 5 t)
      (iblk m hO c 6 t) (iblk m hO c 7 t) (iblk m hO c 8 t) (iblk m hO c 9 t) (iblk m hO c 10 t) := outA_eq ..

theorem idleAt_eq (m : (ℓ : Loc nD τ sig) → Buf (Elt F) ℓ) (hO : Ok m) (c : Dev nD) (t : Fin (cfgM m hO).N) (h : ¬ InUse m c (grid0.coords t)) :
    idleAt m hO c t h = k0_pay2 := outB_eq ..

end Cert.Moe

end
-- ==== Proof.Moe.Act.lean ====
/- What a step stores, at an element. -/
module

public import proofs.«01_k».proof.Proof.Moe.Step

@[expose] public section

set_option maxRecDepth 16384

noncomputable section

namespace Cert.Moe

open Idealize.ShloMosaic Idealize.ShloMosaic.TcCoe Idealize.SL.Sem
open Cert.ExpertsIdeal Cert.ExpertsIdeal.Gen

theorem colsLo_at (x : Vec Ideal S1x1024x3584 .bf16) (k : Fin 1024) (f : Fin 1792) : colsLo x (ix3 0 k f) = x (ix3 0 k ⟨f, by omega⟩) :=
  View.ld_unit_apply_of _ _ _ _ _ _ fun a => by fin_cases a <;> simp [ix3]
theorem colsHi_at (x : Vec Ideal S1x1024x3584 .bf16) (k : Fin 1024) (f : Fin 1792) : colsHi x (ix3 0 k f) = x (ix3 0 k ⟨1792 + f, by omega⟩) :=
  View.ld_unit_apply_of _ _ _ _ _ _ fun a => by fin_cases a <;> simp [ix3]
theorem rowsLo_at (x : Vec Ideal S1x3584x1024 .bf16) (f : Fin 1792) (e : Fin 1024) : rowsLo x (ix3 0 f e) = x (ix3 0 ⟨f, by omega⟩ e) :=
  View.ld_unit_apply_of _ _ _ _ _ _ fun a => by fin_cases a <;> simp [ix3]
theorem rowsHi_at (x : Vec Ideal S1x3584x1024 .bf16) (f : Fin 1792) (e : Fin 1024) : rowsHi x (ix3 0 f e) = x (ix3 0 ⟨1792 + f, by omega⟩ e) :=
  View.ld_unit_apply_of _ _ _ _ _ _ fun a => by fin_cases a <;> simp [ix3]

/-- One hidden unit: the gate's activation times the other product. -/
def unit (g u : EReal) : EReal := g * Ideal.logistic g * u

theorem zeros_at (i : Fin 256) (e : Fin 1024) : k0_pay2 (F := Ideal) (ix2 i e) = (0 : EReal) := by
  pointwise [k0_pay2]

theorem sum_zero_at (i : Fin 256) (e : Fin 1024) : k0_pay6 (F := Ideal) (ix2 i e) = (0 : EReal) := by
  pointwise [k0_pay6]

section pieces

variable (p : Fin 8 → Vec Ideal S32x1152 .bf16)

theorem pick (i : Fin 256) (k : Fin 1152) (a : Fin 8) (r : Fin 32) (ha : (i : ℕ) / 32 = a) (hr : (i : ℕ) % 32 = r) :
    p a (ix2 r k) = p ⟨(i : ℕ) / 32, by omega⟩ (ix2 ⟨(i : ℕ) % 32, by omega⟩ k) := by
  rw [show (⟨(i : ℕ) / 32, by omega⟩ : Fin 8) = a from Fin.ext ha, show (⟨(i : ℕ) % 32, by omega⟩ : Fin 32) = r from Fin.ext hr]

theorem joined_at (i : Fin 256) (k : Fin 1152) : k0_pay3 (F := Ideal) (p 0) (p 1) (p 2) (p 3) (p 4) (p 5) (p 6) (p 7) (ix2 i k)
    = p ⟨(i : ℕ) / 32, by omega⟩ (ix2 ⟨(i : ℕ) % 32, by omega⟩ k) := by
  pointwise [k0_pay3]
  split_ifs <;> refine pick p i k _ _ ?_ ?_ <;> simp <;> omega

theorem row_at (i : Fin 256) (k : Fin 1024) : k0_pay5 (F := Ideal) (p 0) (p 1) (p 2) (p 3) (p 4) (p 5) (p 6) (p 7) (ix2 i k)
    = p ⟨(i : ℕ) / 32, by omega⟩ (ix2 ⟨(i : ℕ) % 32, by omega⟩ ⟨k, by omega⟩) := by
  rw [← joined_at p i ⟨k, by omega⟩]
  unfold k0_pay5
  generalize k0_pay3 (F := Ideal) (p 0) (p 1) (p 2) (p 3) (p 4) (p 5) (p 6) (p 7) = y
  pointwise

theorem gate_at (i : Fin 256) : k0_pay4 (F := Ideal) (p 0) (p 1) (p 2) (p 3) (p 4) (p 5) (p 6) (p 7) (ix2 i 0)
    = ∑ l : Fin 128, p ⟨(i : ℕ) / 32, by omega⟩ (ix2 ⟨(i : ℕ) % 32, by omega⟩ ⟨1024 + l, by omega⟩) := by
  refine Eq.trans ?_ (Finset.sum_congr rfl fun l _ => joined_at p i ⟨1024 + l, by omega⟩)
  unfold k0_pay4
  generalize k0_pay3 (F := Ideal) (p 0) (p 1) (p 2) (p 3) (p 4) (p 5) (p 6) (p 7) = y
  pointwise

theorem hidden_at (g u : Vec Ideal S1x1024x1792 .bf16) (i : Fin 256) (f : Fin 1792) :
    k0_pay7 (F := Ideal) (p 0) (p 1) (p 2) (p 3) (p 4) (p 5) (p 6) (p 7) g u (ix2 i f)
      = unit (∑ k : Fin 1024, k0_pay5 (F := Ideal) (p 0) (p 1) (p 2) (p 3) (p 4) (p 5) (p 6) (p 7) (ix2 i k) * g (ix3 0 k f))
          (∑ k : Fin 1024, k0_pay5 (F := Ideal) (p 0) (p 1) (p 2) (p 3) (p 4) (p 5) (p 6) (p 7) (ix2 i k) * u (ix3 0 k f)) := by
  unfold k0_pay7
  generalize k0_pay5 (F := Ideal) (p 0) (p 1) (p 2) (p 3) (p 4) (p 5) (p 6) (p 7) = y
  pointwise [unit]

end pieces

theorem pay1_at (w : FVec Ideal S256x1 .f32) (x : FVec Ideal S256x1024 .bf16) (z : FVec Ideal S256x1024 .f32) (h : FVec Ideal S256x1792 .bf16)
    (d : Vec Ideal S1x1792x1024 .bf16) (g u : Vec Ideal S1x1024x1792 .bf16) (d' : Vec Ideal S1x1792x1024 .bf16) (i : Fin 256) (e : Fin 1024) :
    k0_pay1 (F := Ideal) w x z h d g u d' (ix2 i e)
      = (z (ix2 i e) + (∑ f : Fin 1792, h (ix2 i f) * d (ix3 0 f e))
          + ∑ f : Fin 1792, unit (∑ k : Fin 1024, x (ix2 i k) * g (ix3 0 k f)) (∑ k : Fin 1024, x (ix2 i k) * u (ix3 0 k f)) * d' (ix3 0 f e)) * w (ix2 i 0) := by
  unfold k0_pay1
  pointwise [unit]

/-- The gated network of one row. -/
def network (x : Fin 1024 → EReal) (g u : Fin 1024 → Fin 3584 → EReal) (d : Fin 3584 → EReal) : EReal :=
  ∑ f : Fin 3584, unit (∑ k : Fin 1024, x k * g k f) (∑ k : Fin 1024, x k * u k f) * d f

theorem stored_at (x0 x1 : Vec Ideal S1x1024x3584 .bf16) (x2 : Vec Ideal S1x3584x1024 .bf16) (p : Fin 8 → Vec Ideal S32x1152 .bf16)
    (i : Fin 256) (e : Fin 1024) : stored x0 x1 x2 (p 0) (p 1) (p 2) (p 3) (p 4) (p 5) (p 6) (p 7) (ix2 i e)
      = network (fun k => p ⟨(i : ℕ) / 32, by omega⟩ (ix2 ⟨(i : ℕ) % 32, by omega⟩ ⟨k, by omega⟩))
          (fun k f => x0 (ix3 0 k f)) (fun k f => x1 (ix3 0 k f)) (fun f => x2 (ix3 0 f e))
        * ∑ l : Fin 128, p ⟨(i : ℕ) / 32, by omega⟩ (ix2 ⟨(i : ℕ) % 32, by omega⟩ ⟨1024 + l, by omega⟩) := by
  unfold stored network
  rw [pay1_at, gate_at, sum_zero_at, zero_add, Fin.sum_univ_two_halves 1792 1792 rfl]
  simp only [hidden_at, row_at, colsLo_at, colsHi_at, rowsLo_at, rowsHi_at]

end Cert.Moe

end
-- ==== Proof.Moe.Parts.lean ====
/- The experts' reference, read at an element. -/
module

public import proofs.«01_k».proof.Proof.Gen.ExpertsReferenceIdeal.Run
public import proofs.«01_k».proof.Proof.Gen.ExpertsReferenceIdeal.Read
public import proofs.«01_k».proof.Proof.Moe.Act

@[expose] public section

set_option maxRecDepth 16384

noncomputable section

namespace Cert.Moe

open Idealize.ShloMosaic Idealize.ShloMosaic.TcCoe Idealize.SL.Sem Idealize.ShloMosaic.WordCmp
open Cert.ExpertsReferenceIdeal Cert.ExpertsReferenceIdeal.Gen Cert.ExpertsReferenceIdeal.Read

/-- The gated network on all the rows. -/
def mlp (x : FVec Ideal S75776x1024 .f32) (g u : FVec Ideal S1024x3584 .f32) (d : FVec Ideal S3584x1024 .f32) : FVec Ideal S75776x1024 .f32 :=
  Host.dotGeneral (F := Ideal) dot_S75776x3584_S3584x1024_S75776x1024_1_0_0_1_n_n none
    (mulf (mulf (Host.dotGeneral (F := Ideal) dot_S75776x1024_S1024x3584_S75776x3584_1_0_0_1_n_n none x g)
      (Host.divf (broadcastInDim S75776x3584 ![] bcast_S_S75776x3584 (constant (F := Ideal) S_ .f32 0x3F800000#32))
        (addf (broadcastInDim S75776x3584 ![] bcast_S_S75776x3584 (constant (F := Ideal) S_ .f32 0x3F800000#32))
          (Host.exp (Host.negf (Host.dotGeneral (F := Ideal) dot_S75776x1024_S1024x3584_S75776x3584_1_0_0_1_n_n none x g))))))
      (Host.dotGeneral (F := Ideal) dot_S75776x1024_S1024x3584_S75776x3584_1_0_0_1_n_n none x u)) d

theorem mlp_at (x : FVec Ideal S75776x1024 .f32) (g u : FVec Ideal S1024x3584 .f32) (d : FVec Ideal S3584x1024 .f32) (r : Fin 75776) (e : Fin 1024) :
    mlp x g u d (ix2 r e) = network (fun k => x (ix2 r k)) (fun k f => g (ix2 k f)) (fun k f => u (ix2 k f)) (fun f => d (ix2 f e)) := by
  pointwise [mlp, network, unit, Ideal.logistic]

variable (x0 : IVec S2368 32) (x1 : IVec S296 32) (x2 : IVec S1 32) (x3 : FVec Ideal S73728x1152 .f32)
  (x4 x5 : FVec Ideal S8x1024x3584 .f32) (x6 : FVec Ideal S8x3584x1024 .f32)

theorem part_0 (r : Fin 75776) (e : Fin 1024) :
    val_main_v46 (F := Ideal) x0 x1 x2 x3 x4 x5 x6 (ix2 r e) = val_main_v31 (F := Ideal) x0 x1 x2 x3 (ix2 r 0)
      * network (fun k => val_main_v9 (F := Ideal) x0 x3 (ix2 r k)) (fun k f => x4 (ix3 0 k f)) (fun k f => x5 (ix3 0 k f)) (fun f => x6 (ix3 0 f e)) := by
  have hw : val_main_v45 (F := Ideal) x0 x1 x2 x3 (ix2 r e) = val_main_v31 (F := Ideal) x0 x1 x2 x3 (ix2 r 0) := by
    unfold val_main_v45 val_main_v33
    generalize val_main_v31 (F := Ideal) x0 x1 x2 x3 = y
    pointwise
  have hn : val_main_v44 (F := Ideal) x0 x3 x4 x5 x6 = mlp (val_main_v9 (F := Ideal) x0 x3) (val_main_v35 (F := Ideal) x4) (val_main_v37 (F := Ideal) x5) (val_main_v39 (F := Ideal) x6) := rfl
  have hg : ∀ k f, val_main_v35 (F := Ideal) x4 (ix2 k f) = x4 (ix3 0 k f) := fun k f => by pointwise [val_main_v35, val_main_v34]
  have hu : ∀ k f, val_main_v37 (F := Ideal) x5 (ix2 k f) = x5 (ix3 0 k f) := fun k f => by pointwise [val_main_v37, val_main_v36]
  have hd : ∀ f e, val_main_v39 (F := Ideal) x6 (ix2 f e) = x6 (ix3 0 f e) := fun f e => by pointwise [val_main_v39, val_main_v38]
  rw [val_main_v46_apply, hw, hn, mlp_at]
  simp only [hg, hu, hd]
  rfl

theorem part_1 (r : Fin 75776) (e : Fin 1024) :
    val_main_v61 (F := Ideal) x0 x1 x2 x3 x4 x5 x6 (ix2 r e) = val_main_v31 (F := Ideal) x0 x1 x2 x3 (ix2 r 1)
      * network (fun k => val_main_v9 (F := Ideal) x0 x3 (ix2 r k)) (fun k f => x4 (ix3 1 k f)) (fun k f => x5 (ix3 1 k f)) (fun f => x6 (ix3 1 f e)) := by
  have hw : val_main_v60 (F := Ideal) x0 x1 x2 x3 (ix2 r e) = val_main_v31 (F := Ideal) x0 x1 x2 x3 (ix2 r 1) := by
    unfold val_main_v60 val_main_v48
    generalize val_main_v31 (F := Ideal) x0 x1 x2 x3 = y
    pointwise
  have hn : val_main_v59 (F := Ideal) x0 x3 x4 x5 x6 = mlp (val_main_v9 (F := Ideal) x0 x3) (val_main_v50 (F := Ideal) x4) (val_main_v52 (F := Ideal) x5) (val_main_v54 (F := Ideal) x6) := rfl
  have hg : ∀ k f, val_main_v50 (F := Ideal) x4 (ix2 k f) = x4 (ix3 1 k f) := fun k f => by pointwise [val_main_v50, val_main_v49]
  have hu : ∀ k f, val_main_v52 (F := Ideal) x5 (ix2 k f) = x5 (ix3 1 k f) := fun k f => by pointwise [val_main_v52, val_main_v51]
  have hd : ∀ f e, val_main_v54 (F := Ideal) x6 (ix2 f e) = x6 (ix3 1 f e) := fun f e => by pointwise [val_main_v54, val_main_v53]
  rw [val_main_v61_apply, hw, hn, mlp_at]
  simp only [hg, hu, hd]
  rfl

theorem part_2 (r : Fin 75776) (e : Fin 1024) :
    val_main_v76 (F := Ideal) x0 x1 x2 x3 x4 x5 x6 (ix2 r e) = val_main_v31 (F := Ideal) x0 x1 x2 x3 (ix2 r 2)
      * network (fun k => val_main_v9 (F := Ideal) x0 x3 (ix2 r k)) (fun k f => x4 (ix3 2 k f)) (fun k f => x5 (ix3 2 k f)) (fun f => x6 (ix3 2 f e)) := by
  have hw : val_main_v75 (F := Ideal) x0 x1 x2 x3 (ix2 r e) = val_main_v31 (F := Ideal) x0 x1 x2 x3 (ix2 r 2) := by
    unfold val_main_v75 val_main_v63
    generalize val_main_v31 (F := Ideal) x0 x1 x2 x3 = y
    pointwise
  have hn : val_main_v74 (F := Ideal) x0 x3 x4 x5 x6 = mlp (val_main_v9 (F := Ideal) x0 x3) (val_main_v65 (F := Ideal) x4) (val_main_v67 (F := Ideal) x5) (val_main_v69 (F := Ideal) x6) := rfl
  have hg : ∀ k f, val_main_v65 (F := Ideal) x4 (ix2 k f) = x4 (ix3 2 k f) := fun k f => by pointwise [val_main_v65, val_main_v64]
  have hu : ∀ k f, val_main_v67 (F := Ideal) x5 (ix2 k f) = x5 (ix3 2 k f) := fun k f => by pointwise [val_main_v67, val_main_v66]
  have hd : ∀ f e, val_main_v69 (F := Ideal) x6 (ix2 f e) = x6 (ix3 2 f e) := fun f e => by pointwise [val_main_v69, val_main_v68]
  rw [val_main_v76_apply, hw, hn, mlp_at]
  simp only [hg, hu, hd]
  rfl

theorem part_3 (r : Fin 75776) (e : Fin 1024) :
    val_main_v91 (F := Ideal) x0 x1 x2 x3 x4 x5 x6 (ix2 r e) = val_main_v31 (F := Ideal) x0 x1 x2 x3 (ix2 r 3)
      * network (fun k => val_main_v9 (F := Ideal) x0 x3 (ix2 r k)) (fun k f => x4 (ix3 3 k f)) (fun k f => x5 (ix3 3 k f)) (fun f => x6 (ix3 3 f e)) := by
  have hw : val_main_v90 (F := Ideal) x0 x1 x2 x3 (ix2 r e) = val_main_v31 (F := Ideal) x0 x1 x2 x3 (ix2 r 3) := by
    unfold val_main_v90 val_main_v78
    generalize val_main_v31 (F := Ideal) x0 x1 x2 x3 = y
    pointwise
  have hn : val_main_v89 (F := Ideal) x0 x3 x4 x5 x6 = mlp (val_main_v9 (F := Ideal) x0 x3) (val_main_v80 (F := Ideal) x4) (val_main_v82 (F := Ideal) x5) (val_main_v84 (F := Ideal) x6) := rfl
  have hg : ∀ k f, val_main_v80 (F := Ideal) x4 (ix2 k f) = x4 (ix3 3 k f) := fun k f => by pointwise [val_main_v80, val_main_v79]
  have hu : ∀ k f, val_main_v82 (F := Ideal) x5 (ix2 k f) = x5 (ix3 3 k f) := fun k f => by pointwise [val_main_v82, val_main_v81]
  have hd : ∀ f e, val_main_v84 (F := Ideal) x6 (ix2 f e) = x6 (ix3 3 f e) := fun f e => by pointwise [val_main_v84, val_main_v83]
  rw [val_main_v91_apply, hw, hn, mlp_at]
  simp only [hg, hu, hd]
  rfl

theorem part_4 (r : Fin 75776) (e : Fin 1024) :
    val_main_v106 (F := Ideal) x0 x1 x2 x3 x4 x5 x6 (ix2 r e) = val_main_v31 (F := Ideal) x0 x1 x2 x3 (ix2 r 4)
      * network (fun k => val_main_v9 (F := Ideal) x0 x3 (ix2 r k)) (fun k f => x4 (ix3 4 k f)) (fun k f => x5 (ix3 4 k f)) (fun f => x6 (ix3 4 f e)) := by
  have hw : val_main_v105 (F := Ideal) x0 x1 x2 x3 (ix2 r e) = val_main_v31 (F := Ideal) x0 x1 x2 x3 (ix2 r 4) := by
    unfold val_main_v105 val_main_v93
    generalize val_main_v31 (F := Ideal) x0 x1 x2 x3 = y
    pointwise
  have hn : val_main_v104 (F := Ideal) x0 x3 x4 x5 x6 = mlp (val_main_v9 (F := Ideal) x0 x3) (val_main_v95 (F := Ideal) x4) (val_main_v97 (F := Ideal) x5) (val_main_v99 (F := Ideal) x6) := rfl
  have hg : ∀ k f, val_main_v95 (F := Ideal) x4 (ix2 k f) = x4 (ix3 4 k f) := fun k f => by pointwise [val_main_v95, val_main_v94]
  have hu : ∀ k f, val_main_v97 (F := Ideal) x5 (ix2 k f) = x5 (ix3 4 k f) := fun k f => by pointwise [val_main_v97, val_main_v96]
  have hd : ∀ f e, val_main_v99 (F := Ideal) x6 (ix2 f e) = x6 (ix3 4 f e) := fun f e => by pointwise [val_main_v99, val_main_v98]
  rw [val_main_v106_apply, hw, hn, mlp_at]
  simp only [hg, hu, hd]
  rfl

theorem part_5 (r : Fin 75776) (e : Fin 1024) :
    val_main_v121 (F := Ideal) x0 x1 x2 x3 x4 x5 x6 (ix2 r e) = val_main_v31 (F := Ideal) x0 x1 x2 x3 (ix2 r 5)
      * network (fun k => val_main_v9 (F := Ideal) x0 x3 (ix2 r k)) (fun k f => x4 (ix3 5 k f)) (fun k f => x5 (ix3 5 k f)) (fun f => x6 (ix3 5 f e)) := by
  have hw : val_main_v120 (F := Ideal) x0 x1 x2 x3 (ix2 r e) = val_main_v31 (F := Ideal) x0 x1 x2 x3 (ix2 r 5) := by
    unfold val_main_v120 val_main_v108
    generalize val_main_v31 (F := Ideal) x0 x1 x2 x3 = y
    pointwise
  have hn : val_main_v119 (F := Ideal) x0 x3 x4 x5 x6 = mlp (val_main_v9 (F := Ideal) x0 x3) (val_main_v110 (F := Ideal) x4) (val_main_v112 (F := Ideal) x5) (val_main_v114 (F := Ideal) x6) := rfl
  have hg : ∀ k f, val_main_v110 (F := Ideal) x4 (ix2 k f) = x4 (ix3 5 k f) := fun k f => by pointwise [val_main_v110, val_main_v109]
  have hu : ∀ k f, val_main_v112 (F := Ideal) x5 (ix2 k f) = x5 (ix3 5 k f) := fun k f => by pointwise [val_main_v112, val_main_v111]
  have hd : ∀ f e, val_main_v114 (F := Ideal) x6 (ix2 f e) = x6 (ix3 5 f e) := fun f e => by pointwise [val_main_v114, val_main_v113]
  rw [val_main_v121_apply, hw, hn, mlp_at]
  simp only [hg, hu, hd]
  rfl

theorem part_6 (r : Fin 75776) (e : Fin 1024) :
    val_main_v136 (F := Ideal) x0 x1 x2 x3 x4 x5 x6 (ix2 r e) = val_main_v31 (F := Ideal) x0 x1 x2 x3 (ix2 r 6)
      * network (fun k => val_main_v9 (F := Ideal) x0 x3 (ix2 r k)) (fun k f => x4 (ix3 6 k f)) (fun k f => x5 (ix3 6 k f)) (fun f => x6 (ix3 6 f e)) := by
  have hw : val_main_v135 (F := Ideal) x0 x1 x2 x3 (ix2 r e) = val_main_v31 (F := Ideal) x0 x1 x2 x3 (ix2 r 6) := by
    unfold val_main_v135 val_main_v123
    generalize val_main_v31 (F := Ideal) x0 x1 x2 x3 = y
    pointwise
  have hn : val_main_v134 (F := Ideal) x0 x3 x4 x5 x6 = mlp (val_main_v9 (F := Ideal) x0 x3) (val_main_v125 (F := Ideal) x4) (val_main_v127 (F := Ideal) x5) (val_main_v129 (F := Ideal) x6) := rfl
  have hg : ∀ k f, val_main_v125 (F := Ideal) x4 (ix2 k f) = x4 (ix3 6 k f) := fun k f => by pointwise [val_main_v125, val_main_v124]
  have hu : ∀ k f, val_main_v127 (F := Ideal) x5 (ix2 k f) = x5 (ix3 6 k f) := fun k f => by pointwise [val_main_v127, val_main_v126]
  have hd : ∀ f e, val_main_v129 (F := Ideal) x6 (ix2 f e) = x6 (ix3 6 f e) := fun f e => by pointwise [val_main_v129, val_main_v128]
  rw [val_main_v136_apply, hw, hn, mlp_at]
  simp only [hg, hu, hd]
  rfl

theorem part_7 (r : Fin 75776) (e : Fin 1024) :
    val_main_v151 (F := Ideal) x0 x1 x2 x3 x4 x5 x6 (ix2 r e) = val_main_v31 (F := Ideal) x0 x1 x2 x3 (ix2 r 7)
      * network (fun k => val_main_v9 (F := Ideal) x0 x3 (ix2 r k)) (fun k f => x4 (ix3 7 k f)) (fun k f => x5 (ix3 7 k f)) (fun f => x6 (ix3 7 f e)) := by
  have hw : val_main_v150 (F := Ideal) x0 x1 x2 x3 (ix2 r e) = val_main_v31 (F := Ideal) x0 x1 x2 x3 (ix2 r 7) := by
    unfold val_main_v150 val_main_v138
    generalize val_main_v31 (F := Ideal) x0 x1 x2 x3 = y
    pointwise
  have hn : val_main_v149 (F := Ideal) x0 x3 x4 x5 x6 = mlp (val_main_v9 (F := Ideal) x0 x3) (val_main_v140 (F := Ideal) x4) (val_main_v142 (F := Ideal) x5) (val_main_v144 (F := Ideal) x6) := rfl
  have hg : ∀ k f, val_main_v140 (F := Ideal) x4 (ix2 k f) = x4 (ix3 7 k f) := fun k f => by pointwise [val_main_v140, val_main_v139]
  have hu : ∀ k f, val_main_v142 (F := Ideal) x5 (ix2 k f) = x5 (ix3 7 k f) := fun k f => by pointwise [val_main_v142, val_main_v141]
  have hd : ∀ f e, val_main_v144 (F := Ideal) x6 (ix2 f e) = x6 (ix3 7 f e) := fun f e => by pointwise [val_main_v144, val_main_v143]
  rw [val_main_v151_apply, hw, hn, mlp_at]
  simp only [hg, hu, hd]
  rfl

end Cert.Moe

end
-- ==== Proof.Moe.Reference.lean ====
/- The experts' reference at an element: the row its slot names, through the expert of its step. -/
module

public import proofs.«01_k».proof.Proof.Moe.Parts

@[expose] public section

set_option maxRecDepth 16384

noncomputable section

namespace Cert.Moe

open Idealize.ShloMosaic Idealize.ShloMosaic.TcCoe Idealize.SL.Sem Idealize.ShloMosaic.WordCmp
open Cert.ExpertsReferenceIdeal Cert.ExpertsReferenceIdeal.Gen Cert.ExpertsReferenceIdeal.Read

/-- The pieces gathered at their indices: the piece an in-range index names. -/
theorem gather_at (x : FVec Ideal S2304x32x1152 .f32) (j : IVec S2368x1 32) (s : Fin 2368) (r : Fin 32) (k : Fin 1152)
    (n : Fin 2304) (hn : (j (ix2 s 0)).toInt = (n : ℕ)) :
    Host.gather gather_S2304x32x1152_S2368x1_S2368x32x1152_12_0_n_n_0_1_1321152 x j (ix3 s r k) = x (ix3 n r k) := by
  unfold Host.gather
  congr 1
  funext a
  refine Fin.ext ?_
  show gather_S2304x32x1152_S2368x1_S2368x32x1152_12_0_n_n_0_1_1321152.start (ix3 s r k) j a
    + gather_S2304x32x1152_S2368x1_S2368x32x1152_12_0_n_n_0_1_1321152.batchCoord (ix3 s r k) a
    + gather_S2304x32x1152_S2368x1_S2368x32x1152_12_0_n_n_0_1_1321152.offCoord (ix3 s r k) a = _
  rw [GatherDims.batchCoord_eq_zero _ _ _ List.not_mem_nil, add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), add_zero]
    unfold GatherDims.start
    rw [dif_pos (show (0 : Fin 3) ∈ gather_S2304x32x1152_S2368x1_S2368x32x1152_12_0_n_n_0_1_1321152.startIndexMap from List.mem_singleton.mpr rfl)]
    have hsi : gather_S2304x32x1152_S2368x1_S2368x32x1152_12_0_n_n_0_1_1321152.siIdx (ix3 s r k)
        ⟨List.idxOf (0 : Fin 3) gather_S2304x32x1152_S2368x1_S2368x32x1152_12_0_n_n_0_1_1321152.startIndexMap,
          List.idxOf_lt_length_iff.2 (List.mem_singleton.mpr rfl)⟩ = ix2 s 0 := by
      funext b; refine Fin.ext ?_
      match b with
      | ⟨0, _⟩ => rfl
      | ⟨1, _⟩ => rfl
    rw [hsi, hn]
    show min ((n : ℕ) : ℤ).toNat (2304 - 1) = (n : ℕ)
    have := n.isLt
    omega
  · exact Nat.zero_add _
  · exact Nat.zero_add _

variable (x0 : IVec S2368 32) (x1 : IVec S296 32) (x2 : IVec S1 32) (x3 : FVec Ideal S73728x1152 .f32)
  (x4 x5 : FVec Ideal S8x1024x3584 .f32) (x6 : FVec Ideal S8x3584x1024 .f32)

/-- The row of the flat rows that row `r` of the slots is. -/
def source (h0 : ∀ s, (x0 (ix1 s)).toNat < 2304) (r : Fin 75776) : Fin 73728 :=
  ⟨(x0 (ix1 ⟨(r : ℕ) / 32, by omega⟩)).toNat * 32 + (r : ℕ) % 32, by have := h0 ⟨(r : ℕ) / 32, by omega⟩; omega⟩

theorem toInt_small (w : BitVec 32) (h : w.toNat < 2304) : w.toInt = (w.toNat : ℤ) := by
  rw [BitVec.toInt_eq_toNat_cond, if_pos (by omega)]

theorem index_at (h0 : ∀ s, (x0 (ix1 s)).toNat < 2304) (s : Fin 2368) : val_main_v6 (F := Ideal) x0 (ix2 s 0) = x0 (ix1 s) := by
  have hlt : IntOp.cmpi .slt (x0 (ix1 s)) (0#32) = 0#1 := by
    have := toInt_small _ (h0 s)
    show BitVec.ofBool (decide ((x0 (ix1 s)).toInt < (0#32 : BitVec 32).toInt)) = 0#1
    rw [this, decide_eq_false (by simp)]
    rfl
  rw [val_main_v6_apply]
  rw [show idx_main_v6 (ix2 s 0) = ix1 s by funext a; fin_cases a; rfl]
  rw [val_main_v5_apply, val_main_v2_apply, val_main_v1_apply, val_main_c_apply, hlt]
  rfl

theorem rows_at (h0 : ∀ s, (x0 (ix1 s)).toNat < 2304) (r : Fin 75776) (k : Fin 1152) :
    val_main_v8 (F := Ideal) x0 x3 (ix2 r k) = x3 (ix2 (source x0 h0 r) k) := by
  have e8 : ∀ y : FVec Ideal S2368x32x1152 .f32, shapeCast S75776x1152 y shapeCasts_S2368x32x1152_S75776x1152 (ix2 r k)
      = y (ix3 ⟨(r : ℕ) / 32, by omega⟩ ⟨(r : ℕ) % 32, by omega⟩ k) := fun y => by pointwise
  have e0 : ∀ (n : Fin 2304) (q : Fin 32), val_main_v0 (F := Ideal) x3 (ix3 n q k) = x3 (ix2 ⟨n * 32 + q, by omega⟩ k) :=
    fun n q => by pointwise [val_main_v0]
  have h := h0 ⟨(r : ℕ) / 32, by omega⟩
  unfold val_main_v8 val_main_v7
  rw [e8, gather_at _ _ _ _ _ ⟨_, h⟩ (by rw [index_at x0 h0]; exact toInt_small _ h), e0]
  rfl

theorem inputs_at (h0 : ∀ s, (x0 (ix1 s)).toNat < 2304) (r : Fin 75776) (k : Fin 1024) :
    val_main_v9 (F := Ideal) x0 x3 (ix2 r k) = x3 (ix2 (source x0 h0 r) ⟨k, by omega⟩) := by
  rw [← rows_at x0 x3 h0 r]
  unfold val_main_v9
  generalize val_main_v8 (F := Ideal) x0 x3 = y
  pointwise

theorem weight_at (h0 : ∀ s, (x0 (ix1 s)).toNat < 2304) (r : Fin 75776) :
    val_main_v12 (F := Ideal) x0 x3 (ix2 r 0) = ∑ l : Fin 128, x3 (ix2 (source x0 h0 r) ⟨1024 + l, by omega⟩) := by
  refine Eq.trans ?_ (Finset.sum_congr rfl fun l _ => rows_at x0 x3 h0 r ⟨1024 + l, by omega⟩)
  unfold val_main_v12 val_main_v11 val_main_v10 val_main_cst
  generalize val_main_v8 (F := Ideal) x0 x3 = y
  pointwise

/-- Whether step `s` is in use and its expert is `a`. -/
def chosen (s : Fin 296) (a : Fin 8) : BitVec 1 :=
  IntOp.andi (IntOp.cmpi .eq (x1 (ix1 s)) (BitVec.ofNat 32 a)) (IntOp.cmpi .slt (BitVec.ofNat 32 s) (x2 (ix1 0)))

theorem chosen_at (r : Fin 75776) (a : Fin 8) :
    val_main_v28 (F := Ideal) x1 x2 (ix2 r a) = chosen x1 x2 ⟨(r : ℕ) / 256, by omega⟩ a := by
  have h21 : ∀ s : Fin 296, val_main_v21 (F := Ideal) x2 (ix1 s) = x2 (ix1 0) := fun s => by pointwise [val_main_v21, val_main_v20]
  have h25 : ∀ s : Fin 296, val_main_v25 (F := Ideal) x1 x2 (ix2 s a) = chosen x1 x2 s a := fun s => by
    rw [chosen, ← h21 s]
    unfold val_main_v25 val_main_v24 val_main_v23 val_main_v22 val_main_v19 val_main_v18 val_main_v17 val_main_v16 val_main_v15 val_main_v14 val_main_v13
    generalize val_main_v21 (F := Ideal) x2 = y
    pointwise
  rw [← h25]
  unfold val_main_v28 val_main_v27 val_main_v26
  generalize val_main_v25 (F := Ideal) x1 x2 = y
  pointwise

theorem gates_at (h0 : ∀ s, (x0 (ix1 s)).toNat < 2304) (r : Fin 75776) (a : Fin 8) :
    val_main_v31 (F := Ideal) x0 x1 x2 x3 (ix2 r a) = ((chosen x1 x2 ⟨(r : ℕ) / 256, by omega⟩ a).toNat : EReal)
      * ∑ l : Fin 128, x3 (ix2 (source x0 h0 r) ⟨1024 + l, by omega⟩) := by
  rw [val_main_v31_apply, val_main_v29_apply, chosen_at, val_main_v30_apply,
    show idx_main_v30 (ix2 r a) = ix2 r 0 by funext b; fin_cases b <;> rfl, weight_at x0 x3 h0]
  rfl

theorem same_expert : ∀ b a : Fin 8, IntOp.andi (IntOp.cmpi .eq (BitVec.ofNat 32 b) (BitVec.ofNat 32 a)) 1#1 = if b = a then 1#1 else 0#1 := by
  decide

/-- Of eight weighted terms of which one weighs something, the sum is that one. -/
theorem one_of_eight (b : Fin 8) (w : EReal) (n : Fin 8 → EReal) (c : Fin 8 → EReal) (hc : ∀ a, c a = if b = a then 1 else 0) :
    0 + c 0 * w * n 0 + c 1 * w * n 1 + c 2 * w * n 2 + c 3 * w * n 3 + c 4 * w * n 4 + c 5 * w * n 5 + c 6 * w * n 6 + c 7 * w * n 7
      = n b * w := by
  simp only [hc]
  fin_cases b <;> simp [mul_comm]

theorem reference_at (h0 : ∀ s, (x0 (ix1 s)).toNat < 2304) (r : Fin 75776) (e : Fin 1024) :
    val_main_v153 (F := Ideal) x0 x1 x2 x3 x4 x5 x6 (ix2 r e)
      = 0 + val_main_v46 (F := Ideal) x0 x1 x2 x3 x4 x5 x6 (ix2 r e) + val_main_v61 (F := Ideal) x0 x1 x2 x3 x4 x5 x6 (ix2 r e)
        + val_main_v76 (F := Ideal) x0 x1 x2 x3 x4 x5 x6 (ix2 r e) + val_main_v91 (F := Ideal) x0 x1 x2 x3 x4 x5 x6 (ix2 r e)
        + val_main_v106 (F := Ideal) x0 x1 x2 x3 x4 x5 x6 (ix2 r e) + val_main_v121 (F := Ideal) x0 x1 x2 x3 x4 x5 x6 (ix2 r e)
        + val_main_v136 (F := Ideal) x0 x1 x2 x3 x4 x5 x6 (ix2 r e) + val_main_v151 (F := Ideal) x0 x1 x2 x3 x4 x5 x6 (ix2 r e) := by
  have h : val_main_v32 (F := Ideal) (ix2 r e) = (0 : EReal) := by pointwise [val_main_v32, val_main_cst_1]
  rw [val_main_v153_apply, val_main_v152_apply, val_main_v137_apply, val_main_v122_apply, val_main_v107_apply, val_main_v92_apply,
    val_main_v77_apply, val_main_v62_apply, val_main_v47_apply, h]
  rfl

/-- A step in use: the network of its expert on the row, times the row's weight; another step: zero. -/
theorem result_at (h0 : ∀ s, (x0 (ix1 s)).toNat < 2304) (r : Fin 75776) (e : Fin 1024) (b : Fin 8)
    (hb : (x1 (ix1 ⟨(r : ℕ) / 256, by omega⟩)).toNat = b) :
    val_main_v153 (F := Ideal) x0 x1 x2 x3 x4 x5 x6 (ix2 r e)
      = if IntOp.cmpi .slt (BitVec.ofNat 32 ((r : ℕ) / 256)) (x2 (ix1 0)) = 1#1 then
          network (fun k => x3 (ix2 (source x0 h0 r) ⟨k, by omega⟩)) (fun k f => x4 (ix3 b k f)) (fun k f => x5 (ix3 b k f)) (fun f => x6 (ix3 b f e))
            * ∑ l : Fin 128, x3 (ix2 (source x0 h0 r) ⟨1024 + l, by omega⟩)
        else 0 := by
  rw [reference_at x0 x1 x2 x3 x4 x5 x6 h0, part_0, part_1, part_2, part_3, part_4, part_5, part_6, part_7]
  simp only [gates_at x0 x1 x2 x3 h0, inputs_at x0 x3 h0]
  split
  · rename_i hu
    refine one_of_eight b _ (fun a => network (fun k => x3 (ix2 (source x0 h0 r) ⟨k, by omega⟩)) (fun k f => x4 (ix3 a k f))
      (fun k f => x5 (ix3 a k f)) (fun f => x6 (ix3 a f e))) (fun a => ((chosen x1 x2 ⟨(r : ℕ) / 256, by omega⟩ a).toNat : EReal)) fun a => ?_
    have hx : x1 (ix1 ⟨(r : ℕ) / 256, by omega⟩) = BitVec.ofNat 32 b := by
      apply BitVec.eq_of_toNat_eq
      rw [hb, BitVec.toNat_ofNat, Nat.mod_eq_of_lt (by omega)]
    simp only [chosen]
    rw [hu, hx]
    rw [same_expert]
    split_ifs <;> simp
  · rename_i hu
    have hz : ∀ a, chosen x1 x2 ⟨(r : ℕ) / 256, by omega⟩ a = 0#1 := fun a => by
      simp only [chosen]
      rw [ValueIdx.eq_zero_of_ne_one hu]
      exact BitVec.and_zero
    simp [hz]

end Cert.Moe

end
-- ==== Proof.Moe.Bridge.lean ====
/- The experts' output array is the reference's. -/
module

public import proofs.«01_k».proof.Proof.ExpertsIdeal.Ok
public import proofs.«01_k».proof.Proof.Moe.Act
public import proofs.«01_k».proof.Proof.Moe.Reference

@[expose] public section

set_option maxRecDepth 16384

noncomputable section

namespace Cert.Moe

open Idealize.ShloMosaic Idealize.ShloMosaic.TcCoe Idealize.SL.Sem
open Idealize.ShloMosaic.Pipeline (Dat)
open Cert.ExpertsIdeal Cert.ExpertsIdeal.Gen Cert.ExpertsIdeal.Hand

variable (m : (ℓ : Loc nD τ sig) → Buf (Elt Ideal) ℓ)

theorem V_gate (c : Dev nD) : V m c main_v0 = truncf (F := Ideal) .bf16 (m ((c : Thread nD τ).loc main_arg4)) bitsLt_bf16_f32 := by
  unfold V; after_results
theorem V_up (c : Dev nD) : V m c main_v1 = truncf (F := Ideal) .bf16 (m ((c : Thread nD τ).loc main_arg5)) bitsLt_bf16_f32 := by
  unfold V; after_results
theorem V_down (c : Dev nD) : V m c main_v2 = truncf (F := Ideal) .bf16 (m ((c : Thread nD τ).loc main_arg6)) bitsLt_bf16_f32 := by
  unfold V; after_results
theorem V_rows (c : Dev nD) : V m c main_v3 = truncf (F := Ideal) .bf16 (m ((c : Thread nD τ).loc main_arg3)) bitsLt_bf16_f32 := by
  unfold V; after_results

theorem coord : ∀ t : Fin grid0.N, (grid0.coords t 0).val = t.val := by decide +kernel

theorem offset (t : Fin grid0.N) : (BitVec.ofNat 32 (grid0.coords t 0).val).toNat = t.val := by
  have h : t.val < 296 := t.isLt
  rw [coord t, BitVec.toNat_ofNat]; omega

theorem offset_piece (t : Fin grid0.N) (j : ℕ) (hj : j < 8) :
    (Scalar.addi (Scalar.muli (BitVec.ofNat 32 (grid0.coords t 0).val) 8#32) (BitVec.ofNat 32 j)).toNat = 8 * t.val + j := by
  have h : t.val < 296 := t.isLt
  show (BitVec.ofNat 32 (grid0.coords t 0).val * 8#32 + BitVec.ofNat 32 j).toNat = _
  rw [BitVec.toNat_add, BitVec.toNat_mul, offset, BitVec.toNat_ofNat]
  show (t.val * 8 % 2 ^ 32 + j % 2 ^ 32) % 2 ^ 32 = _
  omega

theorem experts_table (c : Dev nD) : tbl m 1 = m ((c : Thread nD τ).loc main_arg1) := by
  obtain rfl : c = 0 := Subsingleton.elim _ _
  exact V_main_arg1 m 0
theorem pieces_table (c : Dev nD) : tbl m 0 = m ((c : Thread nD τ).loc main_arg0) := by
  obtain rfl : c = 0 := Subsingleton.elim _ _
  exact V_main_arg0 m 0
theorem used_table (c : Dev nD) : tbl m 2 = m ((c : Thread nD τ).loc main_arg2) := by
  obtain rfl : c = 0 := Subsingleton.elim _ _
  exact V_main_arg2 m 0

/-- The expert of a step. -/
def expert (c : Dev nD) (t : Fin grid0.N) : ℕ := (m ((c : Thread nD τ).loc main_arg1) (ix1 ⟨t.val, t.isLt⟩)).toNat
/-- The piece a step takes at a place. -/
def piece (c : Dev nD) (t : Fin grid0.N) (j : Fin 8) : ℕ :=
  (m ((c : Thread nD τ).loc main_arg0) (ix1 ⟨8 * t.val + j, by have : t.val < 296 := t.isLt; omega⟩)).toNat

theorem expert_word (c : Dev nD) (t : Fin grid0.N) (x : S296.Idx) (hx : (x 0 : ℕ) = t.val) :
    BitVec.toNat (tbl m 1 x) = expert m c t := by
  rw [experts_table m c]
  refine congrArg (fun x => BitVec.toNat (m ((c : Thread nD τ).loc main_arg1) x)) ?_
  funext a
  match a with
  | 0 => exact Fin.ext hx

theorem piece_word (c : Dev nD) (t : Fin grid0.N) (j : Fin 8) (x : S2368.Idx) (hx : (x 0 : ℕ) = 8 * t.val + j) :
    BitVec.toNat (tbl m 0 x) = piece m c t j := by
  rw [pieces_table m c]
  refine congrArg (fun x => BitVec.toNat (m ((c : Thread nD τ).loc main_arg0) x)) ?_
  funext a
  match a with
  | 0 => exact Fin.ext hx

theorem gate_index (hO : Ok m) (c : Dev nD) (t : Fin grid0.N) : ((cfgM m hO).win 0).index t = ![expert m c t, 0, 0] := by
  rw [← expert_word m c t ((Rect.unit (s := S296) ![(Scalar.indexCast (BitVec.ofNat 32 (grid0.coords t 0).val) : Index).toNat] S1.size
    (k0_off1_inb (grid0.coords t))).emb (Shape.Idx.first (numel1_S1.symm ▸ Nat.one_pos))) ?_]
  · rfl
  · show (BitVec.ofNat 32 (grid0.coords t 0).val).toNat + 1 * 0 = t.val
    rw [offset]; omega

theorem gate_block (hO : Ok m) (c : Dev nD) (t : Fin grid0.N) (b : Fin 8) (hb : expert m c t = b) (k : Fin 1024) (f : Fin 3584) :
    iblk (F := Ideal) m hO c 0 t (ix3 0 k f) = m ((c : Thread nD τ).loc main_arg4) (ix3 b k f) := by
  have i := gate_index m hO c t
  rw [hb] at i
  have e : iblk (F := Ideal) m hO c 0 t (ix3 0 k f) = V m c main_v0 (ix3 b k f) := by
    blk_ext [iblk, i]
  rw [e, V_gate]
  rfl

theorem up_index (hO : Ok m) (c : Dev nD) (t : Fin grid0.N) : ((cfgM m hO).win 1).index t = ![expert m c t, 0, 0] := by
  rw [← expert_word m c t ((Rect.unit (s := S296) ![(Scalar.indexCast (BitVec.ofNat 32 (grid0.coords t 0).val) : Index).toNat] S1.size
    (k0_off1_inb (grid0.coords t))).emb (Shape.Idx.first (numel1_S1.symm ▸ Nat.one_pos))) ?_]
  · rfl
  · show (BitVec.ofNat 32 (grid0.coords t 0).val).toNat + 1 * 0 = t.val
    rw [offset]; omega

theorem up_block (hO : Ok m) (c : Dev nD) (t : Fin grid0.N) (b : Fin 8) (hb : expert m c t = b) (k : Fin 1024) (f : Fin 3584) :
    iblk (F := Ideal) m hO c 1 t (ix3 0 k f) = m ((c : Thread nD τ).loc main_arg5) (ix3 b k f) := by
  have i := up_index m hO c t
  rw [hb] at i
  have e : iblk (F := Ideal) m hO c 1 t (ix3 0 k f) = V m c main_v1 (ix3 b k f) := by
    blk_ext [iblk, i]
  rw [e, V_up]
  rfl

theorem down_index (hO : Ok m) (c : Dev nD) (t : Fin grid0.N) : ((cfgM m hO).win 2).index t = ![expert m c t, 0, 0] := by
  rw [← expert_word m c t ((Rect.unit (s := S296) ![(Scalar.indexCast (BitVec.ofNat 32 (grid0.coords t 0).val) : Index).toNat] S1.size
    (k0_off1_inb (grid0.coords t))).emb (Shape.Idx.first (numel1_S1.symm ▸ Nat.one_pos))) ?_]
  · rfl
  · show (BitVec.ofNat 32 (grid0.coords t 0).val).toNat + 1 * 0 = t.val
    rw [offset]; omega

theorem down_block (hO : Ok m) (c : Dev nD) (t : Fin grid0.N) (b : Fin 8) (hb : expert m c t = b) (f : Fin 3584) (k : Fin 1024) :
    iblk (F := Ideal) m hO c 2 t (ix3 0 f k) = m ((c : Thread nD τ).loc main_arg6) (ix3 b f k) := by
  have i := down_index m hO c t
  rw [hb] at i
  have e : iblk (F := Ideal) m hO c 2 t (ix3 0 f k) = V m c main_v2 (ix3 b f k) := by
    blk_ext [iblk, i]
  rw [e, V_down]
  rfl

theorem piece_index_0 (hO : Ok m) (c : Dev nD) (t : Fin grid0.N) : ((cfgM m hO).win 3).index t = ![piece m c t 0, 0] := by
  rw [← piece_word m c t 0 ((Rect.unit (s := S2368) ![(Scalar.indexCast (Scalar.addi (Scalar.muli (BitVec.ofNat 32 (grid0.coords t 0).val) 8#32) 0#32) : Index).toNat]
    S1.size (k0_off2_inb (grid0.coords t) 0)).emb (Shape.Idx.first (numel1_S1.symm ▸ Nat.one_pos))) ?_]
  · rfl
  · show (Scalar.addi (Scalar.muli (BitVec.ofNat 32 (grid0.coords t 0).val) 8#32) (BitVec.ofNat 32 0)).toNat + 1 * 0 = 8 * t.val + 0
    rw [offset_piece t 0 (by decide)]

theorem piece_block_0 (hO : Ok m) (c : Dev nD) (t : Fin grid0.N) (q : Fin 32) (k : Fin 1152) (r : Fin 73728) (hr : (r : ℕ) = piece m c t 0 * 32 + q) :
    iblk (F := Ideal) m hO c 3 t (ix2 q k) = m ((c : Thread nD τ).loc main_arg3) (ix2 r k) := by
  have i := piece_index_0 m hO c t
  have e : iblk (F := Ideal) m hO c 3 t (ix2 q k) = V m c main_v3 (ix2 r k) := by
    blk_ext [iblk, i]
  rw [e, V_rows]
  rfl

theorem piece_index_1 (hO : Ok m) (c : Dev nD) (t : Fin grid0.N) : ((cfgM m hO).win 4).index t = ![piece m c t 1, 0] := by
  rw [← piece_word m c t 1 ((Rect.unit (s := S2368) ![(Scalar.indexCast (Scalar.addi (Scalar.muli (BitVec.ofNat 32 (grid0.coords t 0).val) 8#32) 1#32) : Index).toNat]
    S1.size (k0_off2_inb (grid0.coords t) 1)).emb (Shape.Idx.first (numel1_S1.symm ▸ Nat.one_pos))) ?_]
  · rfl
  · show (Scalar.addi (Scalar.muli (BitVec.ofNat 32 (grid0.coords t 0).val) 8#32) (BitVec.ofNat 32 1)).toNat + 1 * 0 = 8 * t.val + 1
    rw [offset_piece t 1 (by decide)]

theorem piece_block_1 (hO : Ok m) (c : Dev nD) (t : Fin grid0.N) (q : Fin 32) (k : Fin 1152) (r : Fin 73728) (hr : (r : ℕ) = piece m c t 1 * 32 + q) :
    iblk (F := Ideal) m hO c 4 t (ix2 q k) = m ((c : Thread nD τ).loc main_arg3) (ix2 r k) := by
  have i := piece_index_1 m hO c t
  have e : iblk (F := Ideal) m hO c 4 t (ix2 q k) = V m c main_v3 (ix2 r k) := by
    blk_ext [iblk, i]
  rw [e, V_rows]
  rfl

theorem piece_index_2 (hO : Ok m) (c : Dev nD) (t : Fin grid0.N) : ((cfgM m hO).win 5).index t = ![piece m c t 2, 0] := by
  rw [← piece_word m c t 2 ((Rect.unit (s := S2368) ![(Scalar.indexCast (Scalar.addi (Scalar.muli (BitVec.ofNat 32 (grid0.coords t 0).val) 8#32) 2#32) : Index).toNat]
    S1.size (k0_off2_inb (grid0.coords t) 2)).emb (Shape.Idx.first (numel1_S1.symm ▸ Nat.one_pos))) ?_]
  · rfl
  · show (Scalar.addi (Scalar.muli (BitVec.ofNat 32 (grid0.coords t 0).val) 8#32) (BitVec.ofNat 32 2)).toNat + 1 * 0 = 8 * t.val + 2
    rw [offset_piece t 2 (by decide)]

theorem piece_block_2 (hO : Ok m) (c : Dev nD) (t : Fin grid0.N) (q : Fin 32) (k : Fin 1152) (r : Fin 73728) (hr : (r : ℕ) = piece m c t 2 * 32 + q) :
    iblk (F := Ideal) m hO c 5 t (ix2 q k) = m ((c : Thread nD τ).loc main_arg3) (ix2 r k) := by
  have i := piece_index_2 m hO c t
  have e : iblk (F := Ideal) m hO c 5 t (ix2 q k) = V m c main_v3 (ix2 r k) := by
    blk_ext [iblk, i]
  rw [e, V_rows]
  rfl

theorem piece_index_3 (hO : Ok m) (c : Dev nD) (t : Fin grid0.N) : ((cfgM m hO).win 6).index t = ![piece m c t 3, 0] := by
  rw [← piece_word m c t 3 ((Rect.unit (s := S2368) ![(Scalar.indexCast (Scalar.addi (Scalar.muli (BitVec.ofNat 32 (grid0.coords t 0).val) 8#32) 3#32) : Index).toNat]
    S1.size (k0_off2_inb (grid0.coords t) 3)).emb (Shape.Idx.first (numel1_S1.symm ▸ Nat.one_pos))) ?_]
  · rfl
  · show (Scalar.addi (Scalar.muli (BitVec.ofNat 32 (grid0.coords t 0).val) 8#32) (BitVec.ofNat 32 3)).toNat + 1 * 0 = 8 * t.val + 3
    rw [offset_piece t 3 (by decide)]

theorem piece_block_3 (hO : Ok m) (c : Dev nD) (t : Fin grid0.N) (q : Fin 32) (k : Fin 1152) (r : Fin 73728) (hr : (r : ℕ) = piece m c t 3 * 32 + q) :
    iblk (F := Ideal) m hO c 6 t (ix2 q k) = m ((c : Thread nD τ).loc main_arg3) (ix2 r k) := by
  have i := piece_index_3 m hO c t
  have e : iblk (F := Ideal) m hO c 6 t (ix2 q k) = V m c main_v3 (ix2 r k) := by
    blk_ext [iblk, i]
  rw [e, V_rows]
  rfl

theorem piece_index_4 (hO : Ok m) (c : Dev nD) (t : Fin grid0.N) : ((cfgM m hO).win 7).index t = ![piece m c t 4, 0] := by
  rw [← piece_word m c t 4 ((Rect.unit (s := S2368) ![(Scalar.indexCast (Scalar.addi (Scalar.muli (BitVec.ofNat 32 (grid0.coords t 0).val) 8#32) 4#32) : Index).toNat]
    S1.size (k0_off2_inb (grid0.coords t) 4)).emb (Shape.Idx.first (numel1_S1.symm ▸ Nat.one_pos))) ?_]
  · rfl
  · show (Scalar.addi (Scalar.muli (BitVec.ofNat 32 (grid0.coords t 0).val) 8#32) (BitVec.ofNat 32 4)).toNat + 1 * 0 = 8 * t.val + 4
    rw [offset_piece t 4 (by decide)]

theorem piece_block_4 (hO : Ok m) (c : Dev nD) (t : Fin grid0.N) (q : Fin 32) (k : Fin 1152) (r : Fin 73728) (hr : (r : ℕ) = piece m c t 4 * 32 + q) :
    iblk (F := Ideal) m hO c 7 t (ix2 q k) = m ((c : Thread nD τ).loc main_arg3) (ix2 r k) := by
  have i := piece_index_4 m hO c t
  have e : iblk (F := Ideal) m hO c 7 t (ix2 q k) = V m c main_v3 (ix2 r k) := by
    blk_ext [iblk, i]
  rw [e, V_rows]
  rfl

theorem piece_index_5 (hO : Ok m) (c : Dev nD) (t : Fin grid0.N) : ((cfgM m hO).win 8).index t = ![piece m c t 5, 0] := by
  rw [← piece_word m c t 5 ((Rect.unit (s := S2368) ![(Scalar.indexCast (Scalar.addi (Scalar.muli (BitVec.ofNat 32 (grid0.coords t 0).val) 8#32) 5#32) : Index).toNat]
    S1.size (k0_off2_inb (grid0.coords t) 5)).emb (Shape.Idx.first (numel1_S1.symm ▸ Nat.one_pos))) ?_]
  · rfl
  · show (Scalar.addi (Scalar.muli (BitVec.ofNat 32 (grid0.coords t 0).val) 8#32) (BitVec.ofNat 32 5)).toNat + 1 * 0 = 8 * t.val + 5
    rw [offset_piece t 5 (by decide)]

theorem piece_block_5 (hO : Ok m) (c : Dev nD) (t : Fin grid0.N) (q : Fin 32) (k : Fin 1152) (r : Fin 73728) (hr : (r : ℕ) = piece m c t 5 * 32 + q) :
    iblk (F := Ideal) m hO c 8 t (ix2 q k) = m ((c : Thread nD τ).loc main_arg3) (ix2 r k) := by
  have i := piece_index_5 m hO c t
  have e : iblk (F := Ideal) m hO c 8 t (ix2 q k) = V m c main_v3 (ix2 r k) := by
    blk_ext [iblk, i]
  rw [e, V_rows]
  rfl

theorem piece_index_6 (hO : Ok m) (c : Dev nD) (t : Fin grid0.N) : ((cfgM m hO).win 9).index t = ![piece m c t 6, 0] := by
  rw [← piece_word m c t 6 ((Rect.unit (s := S2368) ![(Scalar.indexCast (Scalar.addi (Scalar.muli (BitVec.ofNat 32 (grid0.coords t 0).val) 8#32) 6#32) : Index).toNat]
    S1.size (k0_off2_inb (grid0.coords t) 6)).emb (Shape.Idx.first (numel1_S1.symm ▸ Nat.one_pos))) ?_]
  · rfl
  · show (Scalar.addi (Scalar.muli (BitVec.ofNat 32 (grid0.coords t 0).val) 8#32) (BitVec.ofNat 32 6)).toNat + 1 * 0 = 8 * t.val + 6
    rw [offset_piece t 6 (by decide)]

theorem piece_block_6 (hO : Ok m) (c : Dev nD) (t : Fin grid0.N) (q : Fin 32) (k : Fin 1152) (r : Fin 73728) (hr : (r : ℕ) = piece m c t 6 * 32 + q) :
    iblk (F := Ideal) m hO c 9 t (ix2 q k) = m ((c : Thread nD τ).loc main_arg3) (ix2 r k) := by
  have i := piece_index_6 m hO c t
  have e : iblk (F := Ideal) m hO c 9 t (ix2 q k) = V m c main_v3 (ix2 r k) := by
    blk_ext [iblk, i]
  rw [e, V_rows]
  rfl

theorem piece_index_7 (hO : Ok m) (c : Dev nD) (t : Fin grid0.N) : ((cfgM m hO).win 10).index t = ![piece m c t 7, 0] := by
  rw [← piece_word m c t 7 ((Rect.unit (s := S2368) ![(Scalar.indexCast (Scalar.addi (Scalar.muli (BitVec.ofNat 32 (grid0.coords t 0).val) 8#32) 7#32) : Index).toNat]
    S1.size (k0_off2_inb (grid0.coords t) 7)).emb (Shape.Idx.first (numel1_S1.symm ▸ Nat.one_pos))) ?_]
  · rfl
  · show (Scalar.addi (Scalar.muli (BitVec.ofNat 32 (grid0.coords t 0).val) 8#32) (BitVec.ofNat 32 7)).toNat + 1 * 0 = 8 * t.val + 7
    rw [offset_piece t 7 (by decide)]

theorem piece_block_7 (hO : Ok m) (c : Dev nD) (t : Fin grid0.N) (q : Fin 32) (k : Fin 1152) (r : Fin 73728) (hr : (r : ℕ) = piece m c t 7 * 32 + q) :
    iblk (F := Ideal) m hO c 10 t (ix2 q k) = m ((c : Thread nD τ).loc main_arg3) (ix2 r k) := by
  have i := piece_index_7 m hO c t
  have e : iblk (F := Ideal) m hO c 10 t (ix2 q k) = V m c main_v3 (ix2 r k) := by
    blk_ext [iblk, i]
  rw [e, V_rows]
  rfl

theorem output_index (hO : Ok m) (t : Fin grid0.N) : ((cfgM m hO).win 11).index t = ![t.val, 0] := by
  show ![(BitVec.ofNat 32 (grid0.coords t 0).val).toNat, (0#32).toNat] = _
  rw [offset]
  rfl

theorem output_flush : ∀ t : Fin grid0.N, spec0_11.flushAt cc0_transform_11 t = true := by decide +kernel

theorem output_covers (hO : Ok m) : ((cfgM m hO).win 11).Covers := by
  refine ⟨(by decide : ∀ a : Fin 2, 0 < S256x1024.size a), fun β => ?_⟩
  have h0 : (β (0 : Fin 2) : ℕ) < 296 := lt_of_lt_of_eq (β (0 : Fin 2)).isLt (show (75776 + 256 - 1) / 256 = 296 by norm_num)
  have h1 : (β (1 : Fin 2) : ℕ) < 1 := lt_of_lt_of_eq (β (1 : Fin 2)).isLt (show (1024 + 1024 - 1) / 1024 = 1 by norm_num)
  refine ⟨⟨β (0 : Fin 2), h0⟩, output_flush ⟨β (0 : Fin 2), h0⟩, fun a => ⟨?_, .inl rfl⟩⟩
  rw [output_index]
  exact (fun a : Fin 2 => match a with
    | 0 => rfl
    | 1 => show 0 = (β (1 : Fin 2) : ℕ) by omega : ∀ a : Fin 2, ![(β (0 : Fin 2) : ℕ), 0] a = (β a : ℕ)) a

/-- Whether a step is in use, of its place and of how many are. -/
theorem in_use_iff (c : Dev nD) (t : Fin grid0.N) :
    InUse m c (grid0.coords t) ↔ IntOp.cmpi .slt (BitVec.ofNat 32 t.val) (m ((c : Thread nD τ).loc main_arg2) (ix1 0)) = 1#1 := by
  have e : ∀ b : Bool, Scalar.cmpi .ne (Scalar.extui (BitVec.ofBool b) : BitVec 32) 0#32 = 1#1 ↔ BitVec.ofBool b = 1#1 := by
    intro b; cases b <;> decide
  have w : tableWord c (tbl m 2) = m ((c : Thread nD τ).loc main_arg2) (ix1 0) := by
    rw [used_table m c]
    refine congrArg (m ((c : Thread nD τ).loc main_arg2)) ?_
    funext a
    match a with
    | 0 => exact Subsingleton.elim (α := Fin 1) _ _
  show Scalar.cmpi .ne (Scalar.extui (BitVec.ofBool (decide ((BitVec.ofNat 32 (grid0.coords t 0).val).toInt < (tableWord c (tbl m 2)).toInt))) : BitVec 32) 0#32 = 1#1 ↔ _
  rw [e, w, coord]
  rfl

/-- The pieces of a step, as the call's operand holds them. -/
def pieces (c : Dev nD) (t : Fin grid0.N) (hp : ∀ j, piece m c t j < 2304) (j : Fin 8) : Vec Ideal S32x1152 .bf16 := fun y =>
  m ((c : Thread nD τ).loc main_arg3) (ix2 ⟨piece m c t j * 32 + (y 0 : Fin 32), by have := hp j; have h : ((y 0 : Fin 32) : ℕ) < 32 := (y 0 : Fin 32).isLt; omega⟩ (y 1 : Fin 1152))

theorem piece_read_0 (hO : Ok m) (c : Dev nD) (t : Fin grid0.N) (hp : ∀ j, piece m c t j < 2304) : iblk (F := Ideal) m hO c 3 t = pieces m c t hp 0 := by
  refine funext fun (y : S32x1152.Idx) => ?_
  idx_vars y
  exact piece_block_0 m hO c t _ _ _ rfl
theorem piece_read_1 (hO : Ok m) (c : Dev nD) (t : Fin grid0.N) (hp : ∀ j, piece m c t j < 2304) : iblk (F := Ideal) m hO c 4 t = pieces m c t hp 1 := by
  refine funext fun (y : S32x1152.Idx) => ?_
  idx_vars y
  exact piece_block_1 m hO c t _ _ _ rfl
theorem piece_read_2 (hO : Ok m) (c : Dev nD) (t : Fin grid0.N) (hp : ∀ j, piece m c t j < 2304) : iblk (F := Ideal) m hO c 5 t = pieces m c t hp 2 := by
  refine funext fun (y : S32x1152.Idx) => ?_
  idx_vars y
  exact piece_block_2 m hO c t _ _ _ rfl
theorem piece_read_3 (hO : Ok m) (c : Dev nD) (t : Fin grid0.N) (hp : ∀ j, piece m c t j < 2304) : iblk (F := Ideal) m hO c 6 t = pieces m c t hp 3 := by
  refine funext fun (y : S32x1152.Idx) => ?_
  idx_vars y
  exact piece_block_3 m hO c t _ _ _ rfl
theorem piece_read_4 (hO : Ok m) (c : Dev nD) (t : Fin grid0.N) (hp : ∀ j, piece m c t j < 2304) : iblk (F := Ideal) m hO c 7 t = pieces m c t hp 4 := by
  refine funext fun (y : S32x1152.Idx) => ?_
  idx_vars y
  exact piece_block_4 m hO c t _ _ _ rfl
theorem piece_read_5 (hO : Ok m) (c : Dev nD) (t : Fin grid0.N) (hp : ∀ j, piece m c t j < 2304) : iblk (F := Ideal) m hO c 8 t = pieces m c t hp 5 := by
  refine funext fun (y : S32x1152.Idx) => ?_
  idx_vars y
  exact piece_block_5 m hO c t _ _ _ rfl
theorem piece_read_6 (hO : Ok m) (c : Dev nD) (t : Fin grid0.N) (hp : ∀ j, piece m c t j < 2304) : iblk (F := Ideal) m hO c 9 t = pieces m c t hp 6 := by
  refine funext fun (y : S32x1152.Idx) => ?_
  idx_vars y
  exact piece_block_6 m hO c t _ _ _ rfl
theorem piece_read_7 (hO : Ok m) (c : Dev nD) (t : Fin grid0.N) (hp : ∀ j, piece m c t j < 2304) : iblk (F := Ideal) m hO c 10 t = pieces m c t hp 7 := by
  refine funext fun (y : S32x1152.Idx) => ?_
  idx_vars y
  exact piece_block_7 m hO c t _ _ _ rfl

/-- What a point leaves, at an element: the reference's at its place. -/
theorem element (hO : Ok m) (c : Dev nD) (t : Fin grid0.N) (h0 : ∀ s, (m ((c : Thread nD τ).loc main_arg0) (ix1 s)).toNat < 2304)
    (h1 : ∀ s, (m ((c : Thread nD τ).loc main_arg1) (ix1 s)).toNat < 8) (i : Fin 256) (e : Fin 1024) (r : Fin 75776) (hr : (r : ℕ) = t.val * 256 + i) :
    outsAt0 (F := Ideal) m hO c t (ix2 i e)
      = Cert.ExpertsReferenceIdeal.Read.val_main_v153 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 r e) := by
  have ht : t.val < 296 := t.isLt
  have hi := i.isLt
  have hrt : (r : ℕ) / 256 = t.val := by omega
  have hp : ∀ j, piece m c t j < 2304 := fun j => h0 _
  have hx : expert m c t < 8 := h1 _
  have hb : (m ((c : Thread nD τ).loc main_arg1) (ix1 ⟨(r : ℕ) / 256, by omega⟩)).toNat = ((⟨expert m c t, hx⟩ : Fin 8) : ℕ) := by
    simp only [hrt]; rfl
  rw [result_at _ _ _ _ _ _ _ h0 r e ⟨expert m c t, hx⟩ hb, hrt]
  unfold outsAt0
  by_cases hu : InUse m c (grid0.coords t)
  · rw [dif_pos hu, if_pos ((in_use_iff m c t).1 hu), useAt_eq, piece_read_0 m hO c t hp, piece_read_1 m hO c t hp, piece_read_2 m hO c t hp,
      piece_read_3 m hO c t hp, piece_read_4 m hO c t hp, piece_read_5 m hO c t hp, piece_read_6 m hO c t hp, piece_read_7 m hO c t hp]
    refine (stored_at (iblk m hO c 0 t) (iblk m hO c 1 t) (iblk m hO c 2 t) (pieces m c t hp) i e).trans ?_
    have s : ∀ k : Fin 1152, pieces m c t hp ⟨(i : ℕ) / 32, by omega⟩ (ix2 ⟨(i : ℕ) % 32, by omega⟩ k)
        = m ((c : Thread nD τ).loc main_arg3) (ix2 (source (m ((c : Thread nD τ).loc main_arg0)) h0 r) k) := fun k => by
      have w : piece m c t ⟨(i : ℕ) / 32, by omega⟩ = (m ((c : Thread nD τ).loc main_arg0) (ix1 ⟨(r : ℕ) / 32, by omega⟩)).toNat := by
        refine congrArg (fun x => (m ((c : Thread nD τ).loc main_arg0) (ix1 x)).toNat) (Fin.ext ?_)
        show 8 * t.val + (i : ℕ) / 32 = (r : ℕ) / 32
        omega
      refine congrArg (fun x => m ((c : Thread nD τ).loc main_arg3) (ix2 x k)) (Fin.ext ?_)
      show piece m c t ⟨(i : ℕ) / 32, by omega⟩ * 32 + (i : ℕ) % 32 = (m ((c : Thread nD τ).loc main_arg0) (ix1 ⟨(r : ℕ) / 32, by omega⟩)).toNat * 32 + (r : ℕ) % 32
      rw [w]
      omega
    simp only [s, gate_block m hO c t ⟨expert m c t, hx⟩ rfl, up_block m hO c t ⟨expert m c t, hx⟩ rfl, down_block m hO c t ⟨expert m c t, hx⟩ rfl]
  · rw [dif_neg hu, if_neg (fun x => hu ((in_use_iff m c t).2 x)), idleAt_eq, zeros_at]

theorem place_at (hO : Ok m) (t : Fin grid0.N) (i : Fin 256) (e : Fin 1024) (r : Fin 75776) (hr : (r : ℕ) = t.val * 256 + i) :
    (((cfgM m hO).win 11).blk t).view.emb (ix2 i e) = ix2 r e := by
  have x := output_index m hO t
  blk_ext [x]

/-- The reference's array, of the call's arguments. -/
def target (c : Dev nD) : FVec Ideal S75776x1024 .bf16 :=
  Cert.ExpertsReferenceIdeal.Read.val_main_v153 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

theorem outcome (hO : Ok m) (c : Dev nD) (t : Fin grid0.N) (h0 : ∀ s, (m ((c : Thread nD τ).loc main_arg0) (ix1 s)).toNat < 2304)
    (h1 : ∀ s, (m ((c : Thread nD τ).loc main_arg1) (ix1 s)).toNat < 8) (y : S256x1024.Idx) :
    outsAt0 (F := Ideal) m hO c t y = target m c ((((cfgM m hO).win 11).blk t).view.emb y) := by
  have ht : t.val < 296 := t.isLt
  obtain ⟨i, e, rfl⟩ : ∃ (i : Fin 256) (e : Fin 1024), y = ix2 i e := ⟨y 0, y 1, (ix2_eta y).symm⟩
  refine (element m hO c t h0 h1 i e ⟨t.val * 256 + i, by omega⟩ rfl).trans ?_
  exact congrArg (target m c) (place_at m hO t i e ⟨t.val * 256 + i, by omega⟩ rfl).symm

/-- The call's output array is the reference's. -/
theorem final (hO : Ok m) (c : Dev nD) (h0 : ∀ s, (m ((c : Thread nD τ).loc main_arg0) (ix1 s)).toNat < 2304)
    (h1 : ∀ s, (m ((c : Thread nD τ).loc main_arg1) (ix1 s)).toNat < 8) :
    (dats (F := Ideal) m hO 0 c).arrAt (11 : Fin 12) (cfgM m hO).N = target m c := by
  have hy : ∀ (t : Fin grid0.N) (y : S256x1024.Idx), (dats (F := Ideal) m hO 0 c).after (11 : Fin 12) t y = target m c ((((cfgM m hO).win 11).blk t).view.emb y) :=
    fun t y => (congrFun (after0_11 m hO c t) y).trans (outcome m hO c t h0 h1 y)
  exact (dats m hO 0 c).arrAt_eq_of_covers (11 : Fin 12) (target m c) (output_covers m hO) fun t _ y => hy t y

end Cert.Moe

end
-- ==== Proof.Moe.Claims.lean ====
/- The experts' claims: both programs end, and end with the same array. -/
module

public import proofs.«01_k».proof.Defs
public import proofs.«01_k».proof.Proof.Moe.Bridge
public import proofs.«01_k».proof.Proof.Gen.Pre_in_range
public import proofs.«01_k».proof.Proof.Gen.ExpertsReferenceIdeal.Run
public import Idealize.ShloMosaic.Lib.Quiescent

@[expose] public section

noncomputable section

namespace Cert.Moe

open Idealize.ShloMosaic Idealize.SL.Sem

/-- The reference ends with its arguments unchanged; it has no semaphore. -/
theorem reference_frame : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-- Both programs end with the experts' rows as the reference has them. -/
theorem algebraic : Cert.algebraic_ExpertsIdeal_ExpertsReferenceIdeal := by
  intro m ρ m' ρ' hpre agree
  have hO := Cert.ExpertsIdeal.Hand.ok_of_pre m hpre
  refine ⟨fun c => target m c, ?_, ?_⟩
  · refine (θ_run Cert.ExpertsIdeal.defs _ _).mono (fun _ h c => ⟨((h.1 c).1 (11 : Fin 12)).trans ?_, h.2 c⟩)
      (θ_run_and (Cert.ExpertsIdeal.Hand.run_main (F := Ideal) m ρ hO) (Cert.ExpertsIdeal.Hand.unchanged (F := Ideal) m ρ hO))
    exact final m hO c (fun s => Cert.ExpertsIdeal.Hand.in_range_pieces m hpre c _) (fun s => Cert.ExpertsIdeal.Hand.in_range_experts m hpre c _)
  · refine (θ_run Cert.ExpertsReferenceIdeal.defs _ _).mono (fun _ h c => ⟨(h c).1.trans ?_, (h c).2⟩)
      (Cert.ExpertsReferenceIdeal.Value.run (F := Ideal) m' ρ')
    obtain ⟨e0, e1, e2, e3, e4, e5, e6⟩ := agree c
    rw [Cert.ExpertsReferenceIdeal.Read.val_main_v153_eq]
    show Cert.ExpertsReferenceIdeal.Read.val_main_v153 (F := Ideal) (m' (c.tc.loc Cert.ExpertsReferenceIdeal.main_arg0)) (m' (c.tc.loc Cert.ExpertsReferenceIdeal.main_arg1)) (m' (c.tc.loc Cert.ExpertsReferenceIdeal.main_arg2))
      (m' (c.tc.loc Cert.ExpertsReferenceIdeal.main_arg3)) (m' (c.tc.loc Cert.ExpertsReferenceIdeal.main_arg4)) (m' (c.tc.loc Cert.ExpertsReferenceIdeal.main_arg5)) (m' (c.tc.loc Cert.ExpertsReferenceIdeal.main_arg6)) = target m c
    rw [e0, e1, e2, e3, e4, e5, e6]
    rfl

end Cert.Moe

end
-- ==== Proof.Ffn.Act.lean ====
/- What the dense network's body stores, at an element. -/
module

public import proofs.«01_k».proof.Proof.Gen.DenseIdeal.Value
public import Idealize.ShloMosaic.Lib.Pipeline.ValueKit

@[expose] public section

set_option maxRecDepth 16384

noncomputable section

namespace Cert.Ffn

open Idealize.ShloMosaic Idealize.ShloMosaic.TcCoe Idealize.SL.Sem
open Cert.DenseIdeal Cert.DenseIdeal.Gen

/-- One hidden unit: the gate's activation times the other product. -/
def unit (g u : EReal) : EReal := g * Ideal.logistic g * u

theorem mod3_at (x : Vec Ideal S1x8x1024 .f32) (k : Fin 1024) : View.ld x r0_1 (ix3 0 0 k) = x (ix3 0 3 k) :=
  View.ld_unit_apply_of _ _ _ _ _ _ fun a => by fin_cases a <;> simp [ix3]
theorem mod4_at (x : Vec Ideal S1x8x1024 .f32) (k : Fin 1024) : View.ld x r0_2 (ix3 0 0 k) = x (ix3 0 4 k) :=
  View.ld_unit_apply_of _ _ _ _ _ _ fun a => by fin_cases a <;> simp [ix3]
theorem mod5_at (x : Vec Ideal S1x8x1024 .f32) (k : Fin 1024) : View.ld x r0_3 (ix3 0 0 k) = x (ix3 0 5 k) :=
  View.ld_unit_apply_of _ _ _ _ _ _ fun a => by fin_cases a <;> simp [ix3]
theorem rows_at (x : Vec Ideal S1x512x1024 .f32) (i : Fin 512) (k : Fin 1024) : View.ld x r0_0 (ix3 0 i k) = x (ix3 0 i k) :=
  View.ld_unit_apply_of _ _ _ _ _ _ fun a => by fin_cases a <;> simp [ix3]
theorem colsLo_at (x : Vec Ideal S1024x2816 .bf16) (k : Fin 1024) (f : Fin 1536) : View.ld x r0_4 (ix2 k f) = x (ix2 k ⟨f, by omega⟩) :=
  View.ld_unit_apply_of _ _ _ _ _ _ fun a => by fin_cases a <;> simp [ix2]
theorem colsHi_at (x : Vec Ideal S1024x2816 .bf16) (k : Fin 1024) (f : Fin 1280) : View.ld x r0_6 (ix2 k f) = x (ix2 k ⟨1536 + f, by omega⟩) :=
  View.ld_unit_apply_of _ _ _ _ _ _ fun a => by fin_cases a <;> simp [ix2]
theorem rowsLo_at (x : Vec Ideal S2816x1024 .bf16) (f : Fin 1536) (e : Fin 1024) : View.ld x r0_5 (ix2 f e) = x (ix2 ⟨f, by omega⟩ e) :=
  View.ld_unit_apply_of _ _ _ _ _ _ fun a => by fin_cases a <;> simp [ix2]
theorem rowsHi_at (x : Vec Ideal S2816x1024 .bf16) (f : Fin 1280) (e : Fin 1024) : View.ld x r0_7 (ix2 f e) = x (ix2 ⟨1536 + f, by omega⟩ e) :=
  View.ld_unit_apply_of _ _ _ _ _ _ fun a => by fin_cases a <;> simp [ix2]

theorem zeros_at (i : Fin 512) (e : Fin 1024) : k0_pay5 (F := Ideal) (ix2 i e) = (0 : EReal) := by
  pointwise [k0_pay5]

theorem flat_at (x : Vec Ideal S1x512x1024 .f32) (i : Fin 512) (k : Fin 1024) : k0_pay2 (F := Ideal) x (ix2 i k) = x (ix3 0 i k) := by
  pointwise [k0_pay2]

theorem gate_at (x : Vec Ideal S1x1x1024 .f32) (k : Fin 1024) : k0_pay4 (F := Ideal) x (ix2 0 k) = x (ix3 0 0 k) := by
  pointwise [k0_pay4]

/-- One row divided by its root mean square, scaled and shifted. -/
def modulated (x shift scale : Fin 1024 → EReal) (k : Fin 1024) : EReal :=
  x k * Ideal.rsqrt (Ideal.div (∑ j : Fin 1024, x j * x j) (Ideal.ofBits .f32 0x44800000#32) + Ideal.ofBits .f32 0x358637BD#32) * (1 + scale k) + shift k

theorem modulated_at (v0 : Vec Ideal S1x512x1024 .f32) (v2 v4 : Vec Ideal S1x1x1024 .f32) (i : Fin 512) (k : Fin 1024) :
    k0_pay3 (F := Ideal) v0 v2 v4 (ix2 i k) = modulated (fun k => v0 (ix3 0 i k)) (fun k => v2 (ix3 0 0 k)) (fun k => v4 (ix3 0 0 k)) k := by
  unfold modulated
  simp only [← flat_at]
  unfold k0_pay3
  generalize k0_pay2 (F := Ideal) v0 = y
  pointwise

theorem hidden_at (v0 : Vec Ideal S1x512x1024 .f32) (v2 v4 : Vec Ideal S1x1x1024 .f32) (g u : Vec Ideal S1024x1536 .bf16) (i : Fin 512) (f : Fin 1536) :
    k0_pay6 (F := Ideal) v0 v2 v4 g u (ix2 i f)
      = unit (∑ k : Fin 1024, k0_pay3 (F := Ideal) v0 v2 v4 (ix2 i k) * g (ix2 k f)) (∑ k : Fin 1024, k0_pay3 (F := Ideal) v0 v2 v4 (ix2 i k) * u (ix2 k f)) := by
  unfold k0_pay6
  generalize k0_pay3 (F := Ideal) v0 v2 v4 = y
  pointwise [unit]

theorem pay1_at (v1 : FVec Ideal S512x1024 .f32) (x : FVec Ideal S512x1024 .bf16) (w : FVec Ideal S1x1024 .f32) (z : FVec Ideal S512x1024 .f32)
    (h : FVec Ideal S512x1536 .f32) (d : Vec Ideal S1536x1024 .bf16) (g u : Vec Ideal S1024x1280 .bf16) (d' : Vec Ideal S1280x1024 .bf16) (i : Fin 512) (e : Fin 1024) :
    k0_pay1 (F := Ideal) v1 x w z h d g u d' (ix3 0 i e)
      = v1 (ix2 i e) + w (ix2 0 e) * (z (ix2 i e) + (∑ f : Fin 1536, h (ix2 i f) * d (ix2 f e))
          + ∑ f : Fin 1280, unit (∑ k : Fin 1024, x (ix2 i k) * g (ix2 k f)) (∑ k : Fin 1024, x (ix2 i k) * u (ix2 k f)) * d' (ix2 f e)) := by
  unfold k0_pay1
  pointwise [unit]

/-- The gated network of one row. -/
def network (x : Fin 1024 → EReal) (g u : Fin 1024 → Fin 2816 → EReal) (d : Fin 2816 → EReal) : EReal :=
  ∑ f : Fin 2816, unit (∑ k : Fin 1024, x k * g k f) (∑ k : Fin 1024, x k * u k f) * d f

/-- One element of the result: the row's own, and the gate times the network of the modulated row. -/
def ffn (x shift scale : Fin 1024 → EReal) (gate : EReal) (g u : Fin 1024 → Fin 2816 → EReal) (d : Fin 2816 → EReal) (e : Fin 1024) : EReal :=
  x e + gate * network (modulated x shift scale) g u d

/-- What is stored, of loads that are the blocks' parts. -/
theorem stored_at (x0 : Vec Ideal S1x512x1024 .f32) (x1 : Vec Ideal S1x8x1024 .f32) (x2 x3 : Vec Ideal S1024x2816 .bf16) (x4 : Vec Ideal S2816x1024 .bf16)
    (y : Vec Ideal S1x512x1024 .f32) (y3 y4 y5 : Vec Ideal S1x1x1024 .f32) (g u : Vec Ideal S1024x1536 .bf16) (d : Vec Ideal S1536x1024 .bf16)
    (g' u' : Vec Ideal S1024x1280 .bf16) (d' : Vec Ideal S1280x1024 .bf16)
    (hy : ∀ i k, y (ix3 0 i k) = x0 (ix3 0 i k)) (h3 : ∀ k, y3 (ix3 0 0 k) = x1 (ix3 0 3 k)) (h4 : ∀ k, y4 (ix3 0 0 k) = x1 (ix3 0 4 k))
    (h5 : ∀ k, y5 (ix3 0 0 k) = x1 (ix3 0 5 k))
    (hg : ∀ (k : Fin 1024) (f : Fin 1536), g (ix2 k f) = x2 (ix2 k ⟨f, by omega⟩)) (hu : ∀ (k : Fin 1024) (f : Fin 1536), u (ix2 k f) = x3 (ix2 k ⟨f, by omega⟩))
    (hd : ∀ (f : Fin 1536) (e : Fin 1024), d (ix2 f e) = x4 (ix2 ⟨f, by omega⟩ e))
    (hg' : ∀ (k : Fin 1024) (f : Fin 1280), g' (ix2 k f) = x2 (ix2 k ⟨1536 + f, by omega⟩))
    (hu' : ∀ (k : Fin 1024) (f : Fin 1280), u' (ix2 k f) = x3 (ix2 k ⟨1536 + f, by omega⟩))
    (hd' : ∀ (f : Fin 1280) (e : Fin 1024), d' (ix2 f e) = x4 (ix2 ⟨1536 + f, by omega⟩ e)) (i : Fin 512) (e : Fin 1024) :
    k0_pay1 (F := Ideal) (k0_pay2 (F := Ideal) y) (k0_pay3 (F := Ideal) y y3 y4) (k0_pay4 (F := Ideal) y5) (k0_pay5 (F := Ideal))
        (k0_pay6 (F := Ideal) y y3 y4 g u) d g' u' d' (ix3 0 i e)
      = ffn (fun k => x0 (ix3 0 i k)) (fun k => x1 (ix3 0 3 k)) (fun k => x1 (ix3 0 4 k)) (x1 (ix3 0 5 e))
          (fun k f => x2 (ix2 k f)) (fun k f => x3 (ix2 k f)) (fun f => x4 (ix2 f e)) e := by
  unfold ffn network
  rw [pay1_at, zeros_at, zero_add, Fin.sum_univ_two_halves 1536 1280 rfl]
  simp only [flat_at, gate_at, hidden_at, modulated_at, hy, h3, h4, h5, hg, hu, hd, hg', hu', hd']

theorem out_at (x0 : Vec Ideal S1x512x1024 .f32) (x1 : Vec Ideal S1x8x1024 .f32) (x2 x3 : Vec Ideal S1024x2816 .bf16) (x4 : Vec Ideal S2816x1024 .bf16)
    (i : Fin 512) (e : Fin 1024) : out0_5 (F := Ideal) x0 x1 x2 x3 x4 (ix3 0 i e)
      = ffn (fun k => x0 (ix3 0 i k)) (fun k => x1 (ix3 0 3 k)) (fun k => x1 (ix3 0 4 k)) (x1 (ix3 0 5 e))
          (fun k f => x2 (ix2 k f)) (fun k f => x3 (ix2 k f)) (fun f => x4 (ix2 f e)) e := by
  unfold out0_5
  rw [View.canon_cons_unit_lit _ _ [] (by decide)]
  exact stored_at x0 x1 x2 x3 x4 _ _ _ _ _ _ _ _ _ _ (rows_at x0) (mod3_at x1) (mod4_at x1) (mod5_at x1)
    (colsLo_at x2) (colsLo_at x3) (rowsLo_at x4) (colsHi_at x2) (colsHi_at x3) (rowsHi_at x4) i e

end Cert.Ffn

end
-- ==== Proof.Ffn.Reference.lean ====
/- The dense network's reference, read at an element. -/
module

public import proofs.«01_k».proof.Proof.Gen.DenseReferenceIdeal.Run
public import proofs.«01_k».proof.Proof.Gen.DenseReferenceIdeal.Read
public import proofs.«01_k».proof.Proof.Ffn.Act

@[expose] public section

set_option maxRecDepth 16384

noncomputable section

namespace Cert.Ffn

open Idealize.ShloMosaic Idealize.ShloMosaic.TcCoe Idealize.SL.Sem
open Cert.DenseReferenceIdeal Cert.DenseReferenceIdeal.Gen Cert.DenseReferenceIdeal.Read

variable (x0 : FVec Ideal S8x4096x1024 .f32) (x1 : FVec Ideal S8x8x1024 .f32) (x2 x3 : FVec Ideal S1024x2816 .f32) (x4 : FVec Ideal S2816x1024 .f32)

theorem ref_modulated_at (b : Fin 8) (r : Fin 4096) (k : Fin 1024) : val_main_v18 (F := Ideal) x0 x1 (ix3 b r k)
    = modulated (fun k => x0 (ix3 b r k)) (fun k => x1 (ix3 b 3 k)) (fun k => x1 (ix3 b 4 k)) k := by
  have hn : val_main_v12 (F := Ideal) x0 (ix3 b r k)
      = x0 (ix3 b r k) * Ideal.rsqrt (Ideal.div (∑ j : Fin 1024, x0 (ix3 b r j) * x0 (ix3 b r j)) (Ideal.ofBits .f32 0x44800000#32) + Ideal.ofBits .f32 0x358637BD#32) := by
    pointwise [val_main_v12, val_main_v11, val_main_v10, val_main_v9, val_main_v8, val_main_v7, val_main_v6, val_main_v5, val_main_v4, val_main_v3, val_main_cst, val_main_cst_0, val_main_cst_1, val_main_cst_2]
  have hs : val_main_v15 (F := Ideal) x1 (ix3 b r k) = 1 + x1 (ix3 b 4 k) := by
    pointwise [val_main_v15, val_main_v14, val_main_v13, val_main_v1, val_main_cst_2]
  have ht : val_main_v17 (F := Ideal) x1 (ix3 b r k) = x1 (ix3 b 3 k) := by
    pointwise [val_main_v17, val_main_v0]
  rw [val_main_v18_apply, val_main_v16_apply, hn, hs, ht]
  rfl

theorem ref_hidden_at (b : Fin 8) (r : Fin 4096) (f : Fin 2816) : val_main_v22 (F := Ideal) x0 x1 x2 x3 (ix3 b r f)
    = unit (∑ k : Fin 1024, modulated (fun k => x0 (ix3 b r k)) (fun k => x1 (ix3 b 3 k)) (fun k => x1 (ix3 b 4 k)) k * x2 (ix2 k f))
        (∑ k : Fin 1024, modulated (fun k => x0 (ix3 b r k)) (fun k => x1 (ix3 b 3 k)) (fun k => x1 (ix3 b 4 k)) k * x3 (ix2 k f)) := by
  simp only [← ref_modulated_at x0 x1 b r]
  unfold val_main_v22 val_main_v20 val_main_call0_v5 val_main_call0_v4 val_main_call0_v3 val_main_call0_v2 val_main_call0_v1 val_main_call0_v0 val_main_v19 val_main_v21
    val_main_call0_cst val_main_call0_cst_0
  generalize val_main_v18 (F := Ideal) x0 x1 = y
  pointwise [unit, Ideal.logistic]

theorem ref_at (b : Fin 8) (r : Fin 4096) (e : Fin 1024) : val_main_v26 (F := Ideal) x0 x1 x2 x3 x4 (ix3 b r e)
    = ffn (fun k => x0 (ix3 b r k)) (fun k => x1 (ix3 b 3 k)) (fun k => x1 (ix3 b 4 k)) (x1 (ix3 b 5 e))
        (fun k f => x2 (ix2 k f)) (fun k f => x3 (ix2 k f)) (fun f => x4 (ix2 f e)) e := by
  unfold ffn network
  simp only [← ref_hidden_at x0 x1 x2 x3 b r]
  unfold val_main_v26 val_main_v25 val_main_v24 val_main_v23 val_main_v2
  generalize val_main_v22 (F := Ideal) x0 x1 x2 x3 = y
  pointwise

end Cert.Ffn

end
-- ==== Proof.Ffn.Bridge.lean ====
/- The dense network's output array is the reference's. -/
module

public import Idealize.ShloMosaic.Lib.Pipeline.ValueKit
public import proofs.«01_k».proof.Proof.Ffn.Act
public import proofs.«01_k».proof.Proof.Ffn.Reference

@[expose] public section

set_option maxRecDepth 16384

noncomputable section

namespace Cert.Ffn

open Idealize.ShloMosaic Idealize.ShloMosaic.TcCoe Idealize.SL.Sem
open Idealize.ShloMosaic.Pipeline (Dat)
open Cert.DenseIdeal Cert.DenseIdeal.Gen

variable (m : (ℓ : Loc nD τ sig) → Buf (Elt Ideal) ℓ)

theorem V_gate (c : Dev nD) : V m c main_v0 = truncf (F := Ideal) .bf16 (m ((c : Thread nD τ).loc main_arg2)) bitsLt_bf16_f32 := by
  unfold V; after_results
theorem V_up (c : Dev nD) : V m c main_v1 = truncf (F := Ideal) .bf16 (m ((c : Thread nD τ).loc main_arg3)) bitsLt_bf16_f32 := by
  unfold V; after_results
theorem V_down (c : Dev nD) : V m c main_v2 = truncf (F := Ideal) .bf16 (m ((c : Thread nD τ).loc main_arg4)) bitsLt_bf16_f32 := by
  unfold V; after_results

theorem idx : ∀ t : Fin cfg0.N, win0_0.index t = ![t.val / 8, t.val % 8, 0] ∧ win0_1.index t = ![t.val / 8, 0, 0] ∧ win0_2.index t = ![0, 0]
    ∧ win0_3.index t = ![0, 0] ∧ win0_4.index t = ![0, 0] ∧ win0_5.index t = ![t.val / 8, t.val % 8, 0] :=
  (by decide +kernel : ∀ t : Fin grid0.N, _)

theorem row_block (c : Dev nD) (t : Fin cfg0.N) (i : Fin 512) (k : Fin 1024) (b : Fin 8) (r : Fin 4096) (hb : (b : ℕ) = t.val / 8)
    (hr : (r : ℕ) = t.val % 8 * 512 + i) : iblk (F := Ideal) m c 0 t (ix3 0 i k) = m ((c : Thread nD τ).loc main_arg0) (ix3 b r k) := by
  have e : iblk (F := Ideal) m c 0 t (ix3 0 i k) = V m c main_arg0 (ix3 b r k) := by
    blk_ext [iblk, idx t]
  rw [e, V_main_arg0]

theorem mod_block (c : Dev nD) (t : Fin cfg0.N) (j : Fin 8) (k : Fin 1024) (b : Fin 8) (hb : (b : ℕ) = t.val / 8) :
    iblk (F := Ideal) m c 1 t (ix3 0 j k) = m ((c : Thread nD τ).loc main_arg1) (ix3 b j k) := by
  have e : iblk (F := Ideal) m c 1 t (ix3 0 j k) = V m c main_arg1 (ix3 b j k) := by
    blk_ext [iblk, idx t]
  rw [e, V_main_arg1]

theorem gate_block (c : Dev nD) (t : Fin cfg0.N) (k : Fin 1024) (f : Fin 2816) :
    iblk (F := Ideal) m c 2 t (ix2 k f) = m ((c : Thread nD τ).loc main_arg2) (ix2 k f) := by
  have e : iblk (F := Ideal) m c 2 t (ix2 k f) = V m c main_v0 (ix2 k f) := by
    blk_ext [iblk, idx t]
  rw [e, V_gate]
  rfl

theorem up_block (c : Dev nD) (t : Fin cfg0.N) (k : Fin 1024) (f : Fin 2816) :
    iblk (F := Ideal) m c 3 t (ix2 k f) = m ((c : Thread nD τ).loc main_arg3) (ix2 k f) := by
  have e : iblk (F := Ideal) m c 3 t (ix2 k f) = V m c main_v1 (ix2 k f) := by
    blk_ext [iblk, idx t]
  rw [e, V_up]
  rfl

theorem down_block (c : Dev nD) (t : Fin cfg0.N) (f : Fin 2816) (k : Fin 1024) :
    iblk (F := Ideal) m c 4 t (ix2 f k) = m ((c : Thread nD τ).loc main_arg4) (ix2 f k) := by
  have e : iblk (F := Ideal) m c 4 t (ix2 f k) = V m c main_v2 (ix2 f k) := by
    blk_ext [iblk, idx t]
  rw [e, V_down]
  rfl

/-- The reference's array, of the call's arguments. -/
def target (c : Dev nD) : FVec Ideal S8x4096x1024 .f32 :=
  Cert.DenseReferenceIdeal.Read.val_main_v26 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem place_at (t : Fin cfg0.N) (i : Fin 512) (e : Fin 1024) (b : Fin 8) (r : Fin 4096) (hb : (b : ℕ) = t.val / 8) (hr : (r : ℕ) = t.val % 8 * 512 + i) :
    ((cfg0.win 5).blk t).view.emb (ix3 0 i e) = ix3 b r e := by
  blk_ext [idx t]

/-- What a point leaves, at an element: the reference's at its place. -/
theorem element (c : Dev nD) (t : Fin cfg0.N) (i : Fin 512) (e : Fin 1024) (b : Fin 8) (r : Fin 4096) (hb : (b : ℕ) = t.val / 8)
    (hr : (r : ℕ) = t.val % 8 * 512 + i) :
    out0_5 (F := Ideal) (iblk m c 0 t) (iblk m c 1 t) (iblk m c 2 t) (iblk m c 3 t) (iblk m c 4 t) (ix3 0 i e) = target m c (ix3 b r e) := by
  refine (out_at (iblk m c 0 t) (iblk m c 1 t) (iblk m c 2 t) (iblk m c 3 t) (iblk m c 4 t) i e).trans ?_
  refine Eq.trans ?_ (ref_at _ _ _ _ _ b r e).symm
  simp only [row_block m c t i _ b r hb hr, mod_block m c t _ _ b hb, gate_block, up_block, down_block]

theorem outcome (c : Dev nD) (t : Fin cfg0.N) (y : S1x512x1024.Idx) :
    out0_5 (F := Ideal) (iblk m c 0 t) (iblk m c 1 t) (iblk m c 2 t) (iblk m c 3 t) (iblk m c 4 t) y
      = target m c (((cfg0.win 5).blk t).view.emb y) := by
  have h : t.val < 64 := lt_of_lt_of_eq t.isLt N_0
  obtain ⟨z, i, e, rfl⟩ : ∃ (z : Fin 1) (i : Fin 512) (e : Fin 1024), y = ix3 z i e := ⟨y 0, y 1, y 2, (ix3_eta y).symm⟩
  obtain rfl : z = 0 := Subsingleton.elim _ _
  refine (element m c t i e ⟨t.val / 8, by omega⟩ ⟨t.val % 8 * 512 + i, by omega⟩ rfl rfl).trans ?_
  exact congrArg (target m c) (place_at t i e ⟨t.val / 8, by omega⟩ ⟨t.val % 8 * 512 + i, by omega⟩ rfl rfl).symm

/-- The call's output array is the reference's. -/
theorem final (c : Dev nD) : (dats (F := Ideal) m 0 c).arrAt 5 cfg0.N = target m c := by
  have hy : ∀ (t : Fin cfg0.N) (y : S1x512x1024.Idx), (dats (F := Ideal) m 0 c).after 5 t y = target m c (((cfg0.win 5).blk t).view.emb y) :=
    fun t y => (congrFun (after0_5 m c t) y).trans (outcome m c t y)
  exact (dats m 0 c).arrAt_eq_of_covers 5 (target m c) (by decide +kernel) fun t _ y => hy t y

end Cert.Ffn

end
-- ==== Proof.Ffn.Claims.lean ====
/- The claims about the dense network. -/
module

public import proofs.«01_k».proof.Defs
public import proofs.«01_k».proof.Proof.Ffn.Bridge
public import proofs.«01_k».proof.Proof.Gen.DenseReferenceIdeal.Run
public import Idealize.ShloMosaic.Lib.Quiescent

@[expose] public section

noncomputable section

namespace Cert.Ffn

open Idealize.ShloMosaic Idealize.SL.Sem

/-- The reference ends with its arguments unchanged; it has no semaphore. -/
theorem reference_frame : Cert.quiescent_DenseReferenceIdeal := fun m ρ _ =>
  (θ_run Cert.DenseReferenceIdeal.defs _ _).mono (fun r h => ⟨fun c => (h c).2, sem_eq_zero_of_no_sems (by decide) r.2⟩)
    (Cert.DenseReferenceIdeal.Value.run (F := Ideal) m ρ)

/-- Both programs end with the dense network's rows as the reference has them. -/
theorem algebraic : Cert.algebraic_DenseIdeal_DenseReferenceIdeal := by
  intro m ρ m' ρ' hpre agree
  refine ⟨fun c => target m c, ?_, ?_⟩
  · refine (θ_run Cert.DenseIdeal.defs _ _).mono (fun _ h c => ⟨(h c).1.trans ?_, (h c).2⟩)
      (Cert.DenseIdeal.Value.run_blocks (F := Ideal) m ρ)
    exact final m c
  · refine (θ_run Cert.DenseReferenceIdeal.defs _ _).mono (fun _ h c => ⟨(h c).1.trans ?_, (h c).2⟩)
      (Cert.DenseReferenceIdeal.Value.run (F := Ideal) m' ρ')
    obtain ⟨e0, e1, e2, e3, e4⟩ := agree c
    rw [Cert.DenseReferenceIdeal.Read.val_main_v26_eq]
    show Cert.DenseReferenceIdeal.Read.val_main_v26 (F := Ideal) (m' (c.tc.loc Cert.DenseReferenceIdeal.main_arg0)) (m' (c.tc.loc Cert.DenseReferenceIdeal.main_arg1))
      (m' (c.tc.loc Cert.DenseReferenceIdeal.main_arg2)) (m' (c.tc.loc Cert.DenseReferenceIdeal.main_arg3)) (m' (c.tc.loc Cert.DenseReferenceIdeal.main_arg4)) = target m c
    rw [e0, e1, e2, e3, e4]
    rfl

end Cert.Ffn

end
-- ==== Proof.Cond.Bridge.lean ====
/- The conditioning: what the call stores and the array it leaves. -/
module

public import Idealize.ShloMosaic.Lib.Pipeline.ValueKit
public import proofs.«01_k».proof.Proof.Gen.AdalnIdeal.Value
public import proofs.«01_k».proof.Proof.Gen.AdalnReferenceIdeal.Run
public import proofs.«01_k».proof.Proof.Gen.AdalnReferenceIdeal.Read

@[expose] public section

set_option maxRecDepth 16384

noncomputable section

namespace Cert.Cond

open Idealize.ShloMosaic Idealize.ShloMosaic.TcCoe Idealize.SL.Sem
open Idealize.ShloMosaic.Pipeline (Dat)
open Cert.AdalnIdeal Cert.AdalnIdeal.Gen

/-- One element: the activated row against a column of the weights, and the bias. -/
def cond (x w : Fin 1024 → EReal) (b : EReal) : EReal := (∑ k : Fin 1024, x k * Ideal.logistic (x k) * w k) + b

theorem cond_congr {x x' w w' : Fin 1024 → EReal} {b b' : EReal} (hx : ∀ k, x k = x' k) (hw : ∀ k, w k = w' k) (hb : b = b') : cond x w b = cond x' w' b' := by
  rw [funext hx, funext hw, hb]

theorem rows_at (x : Vec Ideal S16x1024 .f32) (i : Fin 16) (k : Fin 1024) : View.ld x r0_0 (ix2 i k) = x (ix2 i k) :=
  View.ld_unit_apply_of _ _ _ _ _ _ fun a => by fin_cases a <;> simp [ix2]
theorem weight_at (x : Vec Ideal S1x1024x512 .f32) (k : Fin 1024) (e : Fin 512) : View.ld x r0_1 (ix3 0 k e) = x (ix3 0 k e) :=
  View.ld_unit_apply_of _ _ _ _ _ _ fun a => by fin_cases a <;> simp [ix3]
theorem bias_at (x : Vec Ideal S1x1x512 .f32) (e : Fin 512) : View.ld x r0_2 (ix3 0 0 e) = x (ix3 0 0 e) :=
  View.ld_unit_apply_of _ _ _ _ _ _ fun a => by fin_cases a <;> simp [ix3]

theorem pay1_at (x : Vec Ideal S16x1024 .f32) (w : Vec Ideal S1x1024x512 .f32) (b : Vec Ideal S1x1x512 .f32) (i : Fin 16) (e : Fin 512) :
    k0_pay1 (F := Ideal) x w b (ix3 0 i e) = cond (fun k => x (ix2 i k)) (fun k => w (ix3 0 k e)) (b (ix3 0 0 e)) := by
  unfold k0_pay1
  pointwise [cond]

theorem out_at (x0 : Vec Ideal S16x1024 .f32) (x1 : Vec Ideal S1x1024x512 .f32) (x2 : Vec Ideal S1x1x512 .f32) (i : Fin 16) (e : Fin 512) :
    out0_3 (F := Ideal) x0 x1 x2 (ix3 0 i e) = cond (fun k => x0 (ix2 i k)) (fun k => x1 (ix3 0 k e)) (x2 (ix3 0 0 e)) := by
  unfold out0_3
  rw [View.canon_cons_unit_lit _ _ [] (by decide)]
  refine (pay1_at _ _ _ i e).trans ?_
  exact cond_congr (fun k => rows_at x0 i k) (fun k => weight_at x1 k e) (bias_at x2 e)

section reference

open Cert.AdalnReferenceIdeal Cert.AdalnReferenceIdeal.Gen Cert.AdalnReferenceIdeal.Read

theorem ref_at (x0 : FVec Ideal Cert.AdalnReferenceIdeal.S16x1024 .f32) (x1 : FVec Ideal Cert.AdalnReferenceIdeal.S2x1024x6144 .f32) (x2 : FVec Ideal Cert.AdalnReferenceIdeal.S2x6144 .f32) (l : Fin 2) (i : Fin 16) (e : Fin 6144) :
    val_main_v5 (F := Ideal) x0 x1 x2 (ix3 l i e) = cond (fun k => x0 (ix2 i k)) (fun k => x1 (ix3 l k e)) (x2 (ix2 l e)) := by
  have ha : ∀ k, val_main_v0 (F := Ideal) x0 (ix2 i k) = x0 (ix2 i k) * Ideal.logistic (x0 (ix2 i k)) := fun k => by
    pointwise [val_main_v0, val_main_call0_v5, val_main_call0_v4, val_main_call0_v3, val_main_call0_v2, val_main_call0_v1, val_main_call0_v0,
      val_main_call0_cst, val_main_call0_cst_0, Ideal.logistic]
  unfold cond
  simp only [← ha]
  unfold val_main_v5 val_main_v4 val_main_v3 val_main_v2 val_main_v1
  generalize val_main_v0 (F := Ideal) x0 = y
  pointwise

end reference

variable (m : (ℓ : Loc nD τ sig) → Buf (Elt Ideal) ℓ)

theorem V_bias (c : Dev nD) (l : Fin 2) (e : Fin 6144) : V m c main_v0 (ix3 l 0 e) = m ((c : Thread nD τ).loc main_arg2) (ix2 l e) := by
  unfold V; after_results
  pointwise

theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

theorem block_0 (c : Dev nD) (t : Fin cfg0.N) (i : Fin 16) (k : Fin 1024) : iblk (F := Ideal) m c 0 t (ix2 i k) = m ((c : Thread nD τ).loc main_arg0) (ix2 i k) := by
  have h : iblk (F := Ideal) m c 0 t (ix2 i k) = V m c main_arg0 (ix2 i k) := by
    blk_ext [iblk, idx t]
  rw [h, V_main_arg0]

section blocks

variable (c : Dev nD) (t : Fin cfg0.N) (l : Fin 2) (hl : (l : ℕ) = t.val / 12) (e : Fin 512) (f : Fin 6144) (hf : (f : ℕ) = t.val % 12 * 512 + e)
include hl hf

theorem block_1 (k : Fin 1024) : iblk (F := Ideal) m c 1 t (ix3 0 k e) = m ((c : Thread nD τ).loc main_arg1) (ix3 l k f) := by
  have h : iblk (F := Ideal) m c 1 t (ix3 0 k e) = V m c main_arg1 (ix3 l k f) := by
    blk_ext [iblk, idx t]
  rw [h, V_main_arg1]

theorem block_2 : iblk (F := Ideal) m c 2 t (ix3 0 0 e) = m ((c : Thread nD τ).loc main_arg2) (ix2 l f) := by
  have h : iblk (F := Ideal) m c 2 t (ix3 0 0 e) = V m c main_v0 (ix3 l 0 f) := by
    blk_ext [iblk, idx t]
  rw [h, V_bias]

theorem place_at (i : Fin 16) : ((cfg0.win 3).blk t).view.emb (ix3 0 i e) = ix3 l i f := by
  blk_ext [idx t]

end blocks

/-- The reference's array, of the call's arguments. -/
def target (c : Dev nD) : FVec Ideal S2x16x6144 .f32 :=
  Cert.AdalnReferenceIdeal.Read.val_main_v5 (F := Ideal) (m ((c : Thread nD τ).loc main_arg0)) (m ((c : Thread nD τ).loc main_arg1))
    (m ((c : Thread nD τ).loc main_arg2))

/-- What a point leaves, at an element: the reference's at its place. -/
theorem element (c : Dev nD) (t : Fin cfg0.N) (i : Fin 16) (e : Fin 512) (l : Fin 2) (f : Fin 6144) (hl : (l : ℕ) = t.val / 12)
    (hf : (f : ℕ) = t.val % 12 * 512 + e) : out0_3 (F := Ideal) (iblk m c 0 t) (iblk m c 1 t) (iblk m c 2 t) (ix3 0 i e) = target m c (ix3 l i f) := by
  refine (out_at (iblk m c 0 t) (iblk m c 1 t) (iblk m c 2 t) i e).trans ?_
  refine Eq.trans ?_ (ref_at _ _ _ l i f).symm
  exact cond_congr (fun k => block_0 m c t i k) (fun k => block_1 m c t l hl e f hf k) (block_2 m c t l hl e f hf)

theorem outcome (c : Dev nD) (t : Fin cfg0.N) (y : S1x16x512.Idx) :
    out0_3 (F := Ideal) (iblk m c 0 t) (iblk m c 1 t) (iblk m c 2 t) y = target m c (((cfg0.win 3).blk t).view.emb y) := by
  have h : t.val < 24 := lt_of_lt_of_eq t.isLt N_0
  obtain ⟨z, i, e, rfl⟩ : ∃ (z : Fin 1) (i : Fin 16) (e : Fin 512), y = ix3 z i e := ⟨y 0, y 1, y 2, (ix3_eta y).symm⟩
  obtain rfl : z = 0 := Subsingleton.elim _ _
  refine (element m c t i e ⟨t.val / 12, by omega⟩ ⟨t.val % 12 * 512 + e, by omega⟩ rfl rfl).trans ?_
  exact congrArg (target m c) (place_at t ⟨t.val / 12, by omega⟩ rfl e ⟨t.val % 12 * 512 + e, by omega⟩ rfl i).symm

/-- The call's output array is the reference's. -/
theorem final (c : Dev nD) : (dats (F := Ideal) m 0 c).arrAt 3 cfg0.N = target m c := by
  have hy : ∀ (t : Fin cfg0.N) (y : S1x16x512.Idx), (dats (F := Ideal) m 0 c).after 3 t y = target m c (((cfg0.win 3).blk t).view.emb y) :=
    fun t y => (congrFun (after0_3 m c t) y).trans (outcome m c t y)
  exact (dats m 0 c).arrAt_eq_of_covers 3 (target m c) (by decide +kernel) fun t _ y => hy t y

end Cert.Cond

end
-- ==== Proof.Cond.Claims.lean ====
/- The claims about the conditioning. -/
module

public import proofs.«01_k».proof.Defs
public import proofs.«01_k».proof.Proof.Cond.Bridge
public import proofs.«01_k».proof.Proof.Gen.AdalnReferenceIdeal.Run
public import Idealize.ShloMosaic.Lib.Quiescent

@[expose] public section

noncomputable section

namespace Cert.Cond

open Idealize.ShloMosaic Idealize.SL.Sem

/-- The reference ends with its arguments unchanged; it has no semaphore. -/
theorem reference_frame : Cert.quiescent_AdalnReferenceIdeal := fun m ρ _ =>
  (θ_run Cert.AdalnReferenceIdeal.defs _ _).mono (fun r h => ⟨fun c => (h c).2, sem_eq_zero_of_no_sems (by decide) r.2⟩)
    (Cert.AdalnReferenceIdeal.Value.run (F := Ideal) m ρ)

/-- Both programs end with the conditioning as the reference has them. -/
theorem algebraic : Cert.algebraic_AdalnIdeal_AdalnReferenceIdeal := by
  intro m ρ m' ρ' hpre agree
  refine ⟨fun c => target m c, ?_, ?_⟩
  · refine (θ_run Cert.AdalnIdeal.defs _ _).mono (fun _ h c => ⟨(h c).1.trans ?_, (h c).2⟩)
      (Cert.AdalnIdeal.Value.run_blocks (F := Ideal) m ρ)
    exact final m c
  · refine (θ_run Cert.AdalnReferenceIdeal.defs _ _).mono (fun _ h c => ⟨(h c).1.trans ?_, (h c).2⟩)
      (Cert.AdalnReferenceIdeal.Value.run (F := Ideal) m' ρ')
    obtain ⟨e0, e1, e2⟩ := agree c
    rw [Cert.AdalnReferenceIdeal.Read.val_main_v5_eq]
    show Cert.AdalnReferenceIdeal.Read.val_main_v5 (F := Ideal) (m' (c.tc.loc Cert.AdalnReferenceIdeal.main_arg0)) (m' (c.tc.loc Cert.AdalnReferenceIdeal.main_arg1))
      (m' (c.tc.loc Cert.AdalnReferenceIdeal.main_arg2)) = target m c
    rw [e0, e1, e2]
    rfl

end Cert.Cond

end
-- ==== Proof.Out.Bridge.lean ====
/- The output projection with its residual: what the call stores and the array it leaves. -/
module

public import Idealize.ShloMosaic.Lib.Pipeline.ValueKit
public import proofs.«01_k».proof.Proof.Gen.ResidualIdeal.Value
public import proofs.«01_k».proof.Proof.Gen.ResidualReferenceIdeal.Run
public import proofs.«01_k».proof.Proof.Gen.ResidualReferenceIdeal.Read

@[expose] public section

set_option maxRecDepth 16384

noncomputable section

namespace Cert.Out

open Idealize.ShloMosaic Idealize.ShloMosaic.TcCoe Idealize.SL.Sem
open Idealize.ShloMosaic.Pipeline (Dat)
open Cert.ResidualIdeal Cert.ResidualIdeal.Gen

/-- One element: the stream's own, and the gate times the two products. -/
def out (a b wa wb : Fin 512 → EReal) (h gate : EReal) : EReal := h + gate * ((∑ k : Fin 512, a k * wa k) + ∑ k : Fin 512, b k * wb k)

theorem gate_at (x : Vec Ideal S1x8x1024 .f32) (k : Fin 1024) : View.ld x r0_4 (ix3 0 0 k) = x (ix3 0 2 k) :=
  View.ld_unit_apply_of _ _ _ _ _ _ fun a => by fin_cases a <;> simp [ix3]
theorem half_at (x : Vec Ideal S1x1024x512 .bf16) (i : Fin 1024) (k : Fin 512) : View.ld x r0_0 (ix3 0 i k) = x (ix3 0 i k) :=
  View.ld_unit_apply_of _ _ _ _ _ _ fun a => by fin_cases a <;> simp [ix3]
theorem stream_at (x : Vec Ideal S1x1024x1024 .f32) (i k : Fin 1024) : View.ld x r0_3 (ix3 0 i k) = x (ix3 0 i k) :=
  View.ld_unit_apply_of _ _ _ _ _ _ fun a => by fin_cases a <;> simp [ix3]
theorem rowsLo_at (x : Vec Ideal S1024x1024 .bf16) (k : Fin 512) (e : Fin 1024) : View.ld x r0_1 (ix2 k e) = x (ix2 ⟨k, by omega⟩ e) :=
  View.ld_unit_apply_of _ _ _ _ _ _ fun a => by fin_cases a <;> simp [ix2]
theorem rowsHi_at (x : Vec Ideal S1024x1024 .bf16) (k : Fin 512) (e : Fin 1024) : View.ld x r0_2 (ix2 k e) = x (ix2 ⟨512 + k, by omega⟩ e) :=
  View.ld_unit_apply_of _ _ _ _ _ _ fun a => by fin_cases a <;> simp [ix2]

theorem pay1_at (a b : Vec Ideal S1x1024x512 .bf16) (wa wb : Vec Ideal S512x1024 .bf16) (h : Vec Ideal S1x1024x1024 .f32) (g : Vec Ideal S1x1x1024 .f32)
    (i e : Fin 1024) : k0_pay1 (F := Ideal) a wa b wb h g (ix3 0 i e)
      = out (fun k => a (ix3 0 i k)) (fun k => b (ix3 0 i k)) (fun k => wa (ix2 k e)) (fun k => wb (ix2 k e)) (h (ix3 0 i e)) (g (ix3 0 0 e)) := by
  unfold k0_pay1
  pointwise [out]

theorem out_congr {a a' b b' wa wa' wb wb' : Fin 512 → EReal} {h h' g g' : EReal} (ha : ∀ k, a k = a' k) (hb : ∀ k, b k = b' k)
    (hwa : ∀ k, wa k = wa' k) (hwb : ∀ k, wb k = wb' k) (hh : h = h') (hg : g = g') : out a b wa wb h g = out a' b' wa' wb' h' g' := by
  rw [funext ha, funext hb, funext hwa, funext hwb, hh, hg]

theorem out_at (x0 x1 : Vec Ideal S1x1024x512 .bf16) (x2 : Vec Ideal S1024x1024 .bf16) (x3 : Vec Ideal S1x1024x1024 .f32) (x4 : Vec Ideal S1x8x1024 .f32)
    (i e : Fin 1024) : out0_5 (F := Ideal) x0 x1 x2 x3 x4 (ix3 0 i e)
      = out (fun k => x0 (ix3 0 i k)) (fun k => x1 (ix3 0 i k)) (fun k => x2 (ix2 ⟨k, by omega⟩ e)) (fun k => x2 (ix2 ⟨512 + k, by omega⟩ e))
          (x3 (ix3 0 i e)) (x4 (ix3 0 2 e)) := by
  unfold out0_5
  rw [View.canon_cons_unit_lit _ _ [] (by decide)]
  refine (pay1_at _ _ _ _ _ _ i e).trans ?_
  exact out_congr (fun k => half_at x0 i k) (fun k => half_at x1 i k) (fun k => rowsLo_at x2 k e) (fun k => rowsHi_at x2 k e) (stream_at x3 i e) (gate_at x4 e)

section reference

open Cert.ResidualReferenceIdeal Cert.ResidualReferenceIdeal.Gen Cert.ResidualReferenceIdeal.Read

variable (x0 x1 : FVec Ideal Cert.ResidualReferenceIdeal.S8x4096x512 .f32) (x2 : FVec Ideal Cert.ResidualReferenceIdeal.S1024x1024 .f32) (x3 : FVec Ideal Cert.ResidualReferenceIdeal.S8x4096x1024 .f32) (x4 : FVec Ideal Cert.ResidualReferenceIdeal.S8x8x1024 .f32)

theorem joinedLo_at (b : Fin 8) (r : Fin 4096) (k : Fin 512) : val_main_v1 (F := Ideal) x0 x1 (ix3 b r ⟨k, by omega⟩) = x0 (ix3 b r k) := by
  pointwise [val_main_v1]
theorem joinedHi_at (b : Fin 8) (r : Fin 4096) (k : Fin 512) : val_main_v1 (F := Ideal) x0 x1 (ix3 b r ⟨512 + k, by omega⟩) = x1 (ix3 b r k) := by
  pointwise [val_main_v1]

theorem product_at (b : Fin 8) (r : Fin 4096) (e : Fin 1024) : val_main_v2 (F := Ideal) x0 x1 x2 (ix3 b r e)
    = (∑ k : Fin 512, x0 (ix3 b r k) * x2 (ix2 ⟨k, by omega⟩ e)) + ∑ k : Fin 512, x1 (ix3 b r k) * x2 (ix2 ⟨512 + k, by omega⟩ e) := by
  have h : val_main_v2 (F := Ideal) x0 x1 x2 (ix3 b r e) = ∑ k : Fin 1024, val_main_v1 (F := Ideal) x0 x1 (ix3 b r k) * x2 (ix2 k e) := by
    unfold val_main_v2
    generalize val_main_v1 (F := Ideal) x0 x1 = y
    pointwise
  rw [h, Fin.sum_univ_two_halves 512 512 rfl]
  simp only [joinedLo_at, joinedHi_at]

theorem ref_at (b : Fin 8) (r : Fin 4096) (e : Fin 1024) : val_main_v5 (F := Ideal) x0 x1 x2 x3 x4 (ix3 b r e)
    = out (fun k => x0 (ix3 b r k)) (fun k => x1 (ix3 b r k)) (fun k => x2 (ix2 ⟨k, by omega⟩ e)) (fun k => x2 (ix2 ⟨512 + k, by omega⟩ e))
        (x3 (ix3 b r e)) (x4 (ix3 b 2 e)) := by
  have hg : val_main_v3 (F := Ideal) x4 (ix3 b r e) = x4 (ix3 b 2 e) := by
    pointwise [val_main_v3, val_main_v0]
  rw [val_main_v5_apply, val_main_v4_apply, hg, product_at]
  rfl

end reference

variable (m : (ℓ : Loc nD τ sig) → Buf (Elt Ideal) ℓ)

theorem V_0 (c : Dev nD) : V m c main_v0 = truncf (F := Ideal) .bf16 (m ((c : Thread nD τ).loc main_arg0)) bitsLt_bf16_f32 := by
  unfold V; after_results
theorem V_1 (c : Dev nD) : V m c main_v1 = truncf (F := Ideal) .bf16 (m ((c : Thread nD τ).loc main_arg1)) bitsLt_bf16_f32 := by
  unfold V; after_results
theorem V_2 (c : Dev nD) : V m c main_v2 = truncf (F := Ideal) .bf16 (m ((c : Thread nD τ).loc main_arg2)) bitsLt_bf16_f32 := by
  unfold V; after_results

theorem idx : ∀ t : Fin cfg0.N, win0_0.index t = ![t.val / 4, t.val % 4, 0] ∧ win0_1.index t = ![t.val / 4, t.val % 4, 0] ∧ win0_2.index t = ![0, 0]
    ∧ win0_3.index t = ![t.val / 4, t.val % 4, 0] ∧ win0_4.index t = ![t.val / 4, 0, 0] ∧ win0_5.index t = ![t.val / 4, t.val % 4, 0] :=
  (by decide +kernel : ∀ t : Fin grid0.N, _)

section blocks

variable (c : Dev nD) (t : Fin cfg0.N) (b : Fin 8) (hb : (b : ℕ) = t.val / 4)
include hb

theorem block_0 (i : Fin 1024) (k : Fin 512) (r : Fin 4096) (hr : (r : ℕ) = t.val % 4 * 1024 + i) :
    iblk (F := Ideal) m c 0 t (ix3 0 i k) = m ((c : Thread nD τ).loc main_arg0) (ix3 b r k) := by
  have e : iblk (F := Ideal) m c 0 t (ix3 0 i k) = V m c main_v0 (ix3 b r k) := by
    blk_ext [iblk, idx t]
  rw [e, V_0]
  rfl

theorem block_1 (i : Fin 1024) (k : Fin 512) (r : Fin 4096) (hr : (r : ℕ) = t.val % 4 * 1024 + i) :
    iblk (F := Ideal) m c 1 t (ix3 0 i k) = m ((c : Thread nD τ).loc main_arg1) (ix3 b r k) := by
  have e : iblk (F := Ideal) m c 1 t (ix3 0 i k) = V m c main_v1 (ix3 b r k) := by
    blk_ext [iblk, idx t]
  rw [e, V_1]
  rfl

theorem block_3 (i k : Fin 1024) (r : Fin 4096) (hr : (r : ℕ) = t.val % 4 * 1024 + i) :
    iblk (F := Ideal) m c 3 t (ix3 0 i k) = m ((c : Thread nD τ).loc main_arg3) (ix3 b r k) := by
  have e : iblk (F := Ideal) m c 3 t (ix3 0 i k) = V m c main_arg3 (ix3 b r k) := by
    blk_ext [iblk, idx t]
  rw [e, V_main_arg3]

theorem block_4 (j : Fin 8) (k : Fin 1024) : iblk (F := Ideal) m c 4 t (ix3 0 j k) = m ((c : Thread nD τ).loc main_arg4) (ix3 b j k) := by
  have e : iblk (F := Ideal) m c 4 t (ix3 0 j k) = V m c main_arg4 (ix3 b j k) := by
    blk_ext [iblk, idx t]
  rw [e, V_main_arg4]

theorem place_at (i e : Fin 1024) (r : Fin 4096) (hr : (r : ℕ) = t.val % 4 * 1024 + i) : ((cfg0.win 5).blk t).view.emb (ix3 0 i e) = ix3 b r e := by
  blk_ext [idx t]

end blocks

theorem block_2 (c : Dev nD) (t : Fin cfg0.N) (k e : Fin 1024) : iblk (F := Ideal) m c 2 t (ix2 k e) = m ((c : Thread nD τ).loc main_arg2) (ix2 k e) := by
  have h : iblk (F := Ideal) m c 2 t (ix2 k e) = V m c main_v2 (ix2 k e) := by
    blk_ext [iblk, idx t]
  rw [h, V_2]
  rfl

/-- The reference's array, of the call's arguments. -/
def target (c : Dev nD) : FVec Ideal S8x4096x1024 .f32 :=
  Cert.ResidualReferenceIdeal.Read.val_main_v5 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a point leaves, at an element: the reference's at its place. -/
theorem element (c : Dev nD) (t : Fin cfg0.N) (i e : Fin 1024) (b : Fin 8) (r : Fin 4096) (hb : (b : ℕ) = t.val / 4) (hr : (r : ℕ) = t.val % 4 * 1024 + i) :
    out0_5 (F := Ideal) (iblk m c 0 t) (iblk m c 1 t) (iblk m c 2 t) (iblk m c 3 t) (iblk m c 4 t) (ix3 0 i e) = target m c (ix3 b r e) := by
  refine (out_at (iblk m c 0 t) (iblk m c 1 t) (iblk m c 2 t) (iblk m c 3 t) (iblk m c 4 t) i e).trans ?_
  refine Eq.trans ?_ (ref_at _ _ _ _ _ b r e).symm
  exact out_congr (fun k => block_0 m c t b hb i k r hr) (fun k => block_1 m c t b hb i k r hr) (fun k => block_2 m c t _ e) (fun k => block_2 m c t _ e)
    (block_3 m c t b hb i e r hr) (block_4 m c t b hb 2 e)

theorem outcome (c : Dev nD) (t : Fin cfg0.N) (y : S1x1024x1024.Idx) :
    out0_5 (F := Ideal) (iblk m c 0 t) (iblk m c 1 t) (iblk m c 2 t) (iblk m c 3 t) (iblk m c 4 t) y
      = target m c (((cfg0.win 5).blk t).view.emb y) := by
  have h : t.val < 32 := lt_of_lt_of_eq t.isLt N_0
  obtain ⟨z, i, e, rfl⟩ : ∃ (z : Fin 1) (i e : Fin 1024), y = ix3 z i e := ⟨y 0, y 1, y 2, (ix3_eta y).symm⟩
  obtain rfl : z = 0 := Subsingleton.elim _ _
  refine (element m c t i e ⟨t.val / 4, by omega⟩ ⟨t.val % 4 * 1024 + i, by omega⟩ rfl rfl).trans ?_
  exact congrArg (target m c) (place_at t ⟨t.val / 4, by omega⟩ rfl i e ⟨t.val % 4 * 1024 + i, by omega⟩ rfl).symm

/-- The call's output array is the reference's. -/
theorem final (c : Dev nD) : (dats (F := Ideal) m 0 c).arrAt 5 cfg0.N = target m c := by
  have hy : ∀ (t : Fin cfg0.N) (y : S1x1024x1024.Idx), (dats (F := Ideal) m 0 c).after 5 t y = target m c (((cfg0.win 5).blk t).view.emb y) :=
    fun t y => (congrFun (after0_5 m c t) y).trans (outcome m c t y)
  exact (dats m 0 c).arrAt_eq_of_covers 5 (target m c) (by decide +kernel) fun t _ y => hy t y

end Cert.Out

end
-- ==== Proof.Out.Claims.lean ====
/- The claims about the output projection. -/
module

public import proofs.«01_k».proof.Defs
public import proofs.«01_k».proof.Proof.Out.Bridge
public import proofs.«01_k».proof.Proof.Gen.ResidualReferenceIdeal.Run
public import Idealize.ShloMosaic.Lib.Quiescent

@[expose] public section

noncomputable section

namespace Cert.Out

open Idealize.ShloMosaic Idealize.SL.Sem

/-- The reference ends with its arguments unchanged; it has no semaphore. -/
theorem reference_frame : Cert.quiescent_ResidualReferenceIdeal := fun m ρ _ =>
  (θ_run Cert.ResidualReferenceIdeal.defs _ _).mono (fun r h => ⟨fun c => (h c).2, sem_eq_zero_of_no_sems (by decide) r.2⟩)
    (Cert.ResidualReferenceIdeal.Value.run (F := Ideal) m ρ)

/-- Both programs end with the stream as the reference has them. -/
theorem algebraic : Cert.algebraic_ResidualIdeal_ResidualReferenceIdeal := by
  intro m ρ m' ρ' hpre agree
  refine ⟨fun c => target m c, ?_, ?_⟩
  · refine (θ_run Cert.ResidualIdeal.defs _ _).mono (fun _ h c => ⟨(h c).1.trans ?_, (h c).2⟩)
      (Cert.ResidualIdeal.Value.run_blocks (F := Ideal) m ρ)
    exact final m c
  · refine (θ_run Cert.ResidualReferenceIdeal.defs _ _).mono (fun _ h c => ⟨(h c).1.trans ?_, (h c).2⟩)
      (Cert.ResidualReferenceIdeal.Value.run (F := Ideal) m' ρ')
    obtain ⟨e0, e1, e2, e3, e4⟩ := agree c
    rw [Cert.ResidualReferenceIdeal.Read.val_main_v5_eq]
    show Cert.ResidualReferenceIdeal.Read.val_main_v5 (F := Ideal) (m' (c.tc.loc Cert.ResidualReferenceIdeal.main_arg0)) (m' (c.tc.loc Cert.ResidualReferenceIdeal.main_arg1))
      (m' (c.tc.loc Cert.ResidualReferenceIdeal.main_arg2)) (m' (c.tc.loc Cert.ResidualReferenceIdeal.main_arg3)) (m' (c.tc.loc Cert.ResidualReferenceIdeal.main_arg4)) = target m c
    rw [e0, e1, e2, e3, e4]
    rfl

end Cert.Out

end
-- ==== Proof.lean ====
/- The certificate: the facts of each program, the frames, and the values of the five calls. -/
module

public import proofs.«01_k».proof.Defs
public import proofs.«01_k».proof.Proof.Gen.Kernel.Frame
public import proofs.«01_k».proof.Proof.Gen.KernelIdeal.Frame
public import proofs.«01_k».proof.Proof.Gqa.Claims
public import proofs.«01_k».proof.Proof.Gen.Experts
public import proofs.«01_k».proof.Proof.Experts.Ok
public import proofs.«01_k».proof.Proof.ExpertsIdeal.Ok
public import proofs.«01_k».proof.Proof.Moe.Claims
public import proofs.«01_k».proof.Proof.Ffn.Claims
public import proofs.«01_k».proof.Proof.Cond.Claims
public import proofs.«01_k».proof.Proof.Out.Claims
public import proofs.«01_k».proof.Proof.Gen.Adaln.Frame
public import proofs.«01_k».proof.Proof.Gen.Residual.Frame
public import proofs.«01_k».proof.Proof.Gen.Dense.Frame
public import proofs.«01_k».proof.Proof.Gen.AdalnIdeal.Frame
public import proofs.«01_k».proof.Proof.Gen.ResidualIdeal.Frame
public import proofs.«01_k».proof.Proof.Gen.DenseIdeal.Frame

@[expose] public section

noncomputable section

namespace Cert.Proof

theorem claim : Cert.Claim :=
  ⟨Cert.Kernel.Gen.facts, Cert.KernelIdeal.Gen.facts, Cert.ReferenceIdeal.Gen.facts, Cert.Experts.Gen.facts,
    Cert.ExpertsIdeal.Gen.facts, Cert.ExpertsReferenceIdeal.Gen.facts, Cert.Dense.Gen.facts, Cert.DenseIdeal.Gen.facts, Cert.DenseReferenceIdeal.Gen.facts,
    Cert.Adaln.Gen.facts, Cert.AdalnIdeal.Gen.facts, Cert.AdalnReferenceIdeal.Gen.facts, Cert.Residual.Gen.facts, Cert.ResidualIdeal.Gen.facts, Cert.ResidualReferenceIdeal.Gen.facts,
    Cert.Pre_finite.Gen.facts, Cert.Pre_in_range.Gen.facts,
    fun m ρ _ => Cert.Kernel.Gen.frame m ρ, fun m ρ _ => Cert.KernelIdeal.Gen.frame m ρ, fun m ρ _ => Cert.KernelIdeal.Gen.frame m ρ,
    Cert.Gqa.reference_frame, fun m ρ _ => Cert.Gqa.reference_frame m ρ trivial,
    fun m ρ h => Cert.Experts.Hand.frame m ρ (Cert.Experts.Hand.ok_of_pre m h),
    fun m ρ h => Cert.ExpertsIdeal.Hand.frame m ρ (Cert.ExpertsIdeal.Hand.ok_of_pre m h),
    Cert.Moe.reference_frame, fun m ρ _ => Cert.Moe.reference_frame m ρ trivial,
    fun m ρ _ => Cert.Dense.Gen.frame m ρ, fun m ρ _ => Cert.DenseIdeal.Gen.frame m ρ, Cert.Ffn.reference_frame,
    fun m ρ _ => Cert.Adaln.Gen.frame m ρ, fun m ρ _ => Cert.AdalnIdeal.Gen.frame m ρ, Cert.Cond.reference_frame,
    fun m ρ _ => Cert.Residual.Gen.frame m ρ, fun m ρ _ => Cert.ResidualIdeal.Gen.frame m ρ, Cert.Out.reference_frame,
    trivial, Cert.Gqa.algebraic, trivial, Cert.Moe.algebraic, trivial, Cert.Ffn.algebraic, trivial, Cert.Cond.algebraic, trivial, Cert.Out.algebraic⟩

end Cert.Proof

end
